-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v580) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S_ : Shape := ⟨0, ![]⟩

class Facts : Prop where
  bcast_S_S4x12x8x16x16 : S_.BroadcastsInDim S4x12x8x16x16 (![] : Fin 0 → Fin S4x12x8x16x16.rank)
  bcast_S_S4x512x512 : S_.BroadcastsInDim S4x512x512 (![] : Fin 0 → Fin S4x512x512.rank)
  bcast_S_S4x3x512x512 : S_.BroadcastsInDim S4x3x512x512 (![] : Fin 0 → Fin S4x3x512x512.rank)

variable [Facts]

def fn {F : FTy → Type} [FloatOps F] (main_arg0 : FVec F S4x12x8x16x16 .f32) (main_arg1 : FVec F S4x512x512 .f32) (main_arg2 : FVec F S4x3x512x512 .f32) : IVec S4x12x8x16x16 1 × IVec S4x512x512 1 × IVec S4x3x512x512 1 :=
  let main_v0 : FVec F S4x12x8x16x16 .f32 := Host.absf main_arg0
  let main_cst : FVec F S_ .f32 := constant S_ .f32 0x7F800000#32
  let main_v1 : FVec F S4x12x8x16x16 .f32 := broadcastInDim S4x12x8x16x16 ![] bcast_S_S4x12x8x16x16 main_cst
  let main_v2 : IVec S4x12x8x16x16 1 := cmpf .olt main_v0 main_v1
  let main_v3 : FVec F S4x512x512 .f32 := Host.absf main_arg1
  let main_cst_0 : FVec F S_ .f32 := constant S_ .f32 0x7F800000#32
  let main_v4 : FVec F S4x512x512 .f32 := broadcastInDim S4x512x512 ![] bcast_S_S4x512x512 main_cst_0
  let main_v5 : IVec S4x512x512 1 := cmpf .olt main_v3 main_v4
  let main_v6 : FVec F S4x3x512x512 .f32 := Host.absf main_arg2
  let main_cst_1 : FVec F S_ .f32 := constant S_ .f32 0x7F800000#32
  let main_v7 : FVec F S4x3x512x512 .f32 := broadcastInDim S4x3x512x512 ![] bcast_S_S4x3x512x512 main_cst_1
  let main_v8 : IVec S4x3x512x512 1 := cmpf .olt main_v6 main_v7
  (main_v2, main_v5, main_v8)
-- ==== Kernel.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S4x16x12x8x16 : Shape := ⟨5, ![4, 16, 12, 8, 16]⟩
abbrev S4x16x96x16 : Shape := ⟨4, ![4, 16, 96, 16]⟩
abbrev S1x16x96x16 : Shape := ⟨4, ![1, 16, 96, 16]⟩
abbrev S1x256x512 : Shape := ⟨3, ![1, 256, 512]⟩
abbrev S1x3x256x512 : Shape := ⟨4, ![1, 3, 256, 512]⟩
abbrev S16x96x512 : Shape := ⟨3, ![16, 96, 512]⟩
abbrev S16x512 : Shape := ⟨2, ![16, 512]⟩
abbrev S16x96x16 : Shape := ⟨3, ![16, 96, 16]⟩
abbrev S1536x16 : Shape := ⟨2, ![1536, 16]⟩
abbrev S1536x512 : Shape := ⟨2, ![1536, 512]⟩
abbrev S16x1 : Shape := ⟨2, ![16, 1]⟩
abbrev S1x16x512 : Shape := ⟨3, ![1, 16, 512]⟩
abbrev S1x1x16x512 : Shape := ⟨4, ![1, 1, 16, 512]⟩
abbrev S1x1x512 : Shape := ⟨3, ![1, 1, 512]⟩
abbrev S512 : Shape := ⟨1, ![512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S4x12x8x16x16, .f32⟩
  | .hbm, ⟨1, _⟩ => ⟨S4x512x512, .f32⟩
  | .hbm, ⟨2, _⟩ => ⟨S4x3x512x512, .f32⟩
  | .hbm, ⟨3, _⟩ => ⟨S4x16x12x8x16, .f32⟩
  | .hbm, ⟨4, _⟩ => ⟨S4x16x96x16, .f32⟩
  | .hbm, ⟨5, _⟩ => ⟨S4x3x512x512, .f32⟩
  | .local _ .vmem, ⟨0, _⟩ => ⟨S1x16x96x16, .f32⟩
  | .local _ .vmem, ⟨1, _⟩ => ⟨S1x16x96x16, .f32⟩
  | .local _ .vmem, ⟨2, _⟩ => ⟨S1x256x512, .f32⟩
  | .local _ .vmem, ⟨3, _⟩ => ⟨S1x256x512, .f32⟩
  | .local _ .vmem, ⟨4, _⟩ => ⟨S1x3x256x512, .f32⟩
  | .local _ .vmem, ⟨5, _⟩ => ⟨S1x3x256x512, .f32⟩
  | .local _ .vmem, ⟨6, _⟩ => ⟨S1x3x256x512, .f32⟩
  | .local _ .vmem, ⟨7, _⟩ => ⟨S1x3x256x512, .f32⟩
  | .local _ .vmem, ⟨8, _⟩ => ⟨S16x96x512, .f32⟩
  | _, _ => ⟨S4x12x8x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_off1 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v77 : Index := Scalar.indexCast v40
  let c24 : Index := 24#32
  let c0_36 : Index := 0#32
  ![v77.toNat, 24, 0]
def k0_off2 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_37 : BitVec 32 := 1#32
  let v80 : BitVec 32 := Scalar.addi v40 c1_i32_37
  let v81 : Index := Scalar.indexCast v80
  let c24_38 : Index := 24#32
  let c0_39 : Index := 0#32
  ![v81.toNat, 24, 0]
def k0_off3 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v84 : Index := Scalar.indexCast v40
  let c0_40 : Index := 0#32
  let c0_41 : Index := 0#32
  ![v84.toNat, 0, 0]
def k0_off4 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_42 : BitVec 32 := 1#32
  let v93 : BitVec 32 := Scalar.addi v40 c1_i32_42
  let v94 : Index := Scalar.indexCast v93
  let c0_43 : Index := 0#32
  let c0_44 : Index := 0#32
  ![v94.toNat, 0, 0]
def k0_off5 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v103 : Index := Scalar.indexCast v40
  let c8 : Index := 8#32
  let c0_45 : Index := 0#32
  ![v103.toNat, 8, 0]
def k0_off6 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_46 : BitVec 32 := 1#32
  let v110 : BitVec 32 := Scalar.addi v40 c1_i32_46
  let v111 : Index := Scalar.indexCast v110
  let c8_47 : Index := 8#32
  let c0_48 : Index := 0#32
  ![v111.toNat, 8, 0]
def k0_off7 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v118 : Index := Scalar.indexCast v40
  let c16 : Index := 16#32
  let c0_49 : Index := 0#32
  ![v118.toNat, 16, 0]
def k0_off8 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_50 : BitVec 32 := 1#32
  let v125 : BitVec 32 := Scalar.addi v40 c1_i32_50
  let v126 : Index := Scalar.indexCast v125
  let c16_51 : Index := 16#32
  let c0_52 : Index := 0#32
  ![v126.toNat, 16, 0]
def k0_off9 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v136 : Index := Scalar.indexCast v40
  let c56 : Index := 56#32
  let c0_53 : Index := 0#32
  ![v136.toNat, 56, 0]
def k0_off10 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_54 : BitVec 32 := 1#32
  let v139 : BitVec 32 := Scalar.addi v40 c1_i32_54
  let v140 : Index := Scalar.indexCast v139
  let c56_55 : Index := 56#32
  let c0_56 : Index := 0#32
  ![v140.toNat, 56, 0]
def k0_off11 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v143 : Index := Scalar.indexCast v40
  let c32 : Index := 32#32
  let c0_57 : Index := 0#32
  ![v143.toNat, 32, 0]
def k0_off12 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_58 : BitVec 32 := 1#32
  let v152 : BitVec 32 := Scalar.addi v40 c1_i32_58
  let v153 : Index := Scalar.indexCast v152
  let c32_59 : Index := 32#32
  let c0_60 : Index := 0#32
  ![v153.toNat, 32, 0]
def k0_off13 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v162 : Index := Scalar.indexCast v40
  let c40 : Index := 40#32
  let c0_61 : Index := 0#32
  ![v162.toNat, 40, 0]
def k0_off14 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_62 : BitVec 32 := 1#32
  let v169 : BitVec 32 := Scalar.addi v40 c1_i32_62
  let v170 : Index := Scalar.indexCast v169
  let c40_63 : Index := 40#32
  let c0_64 : Index := 0#32
  ![v170.toNat, 40, 0]
def k0_off15 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v177 : Index := Scalar.indexCast v40
  let c48 : Index := 48#32
  let c0_65 : Index := 0#32
  ![v177.toNat, 48, 0]
def k0_off16 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_66 : BitVec 32 := 1#32
  let v184 : BitVec 32 := Scalar.addi v40 c1_i32_66
  let v185 : Index := Scalar.indexCast v184
  let c48_67 : Index := 48#32
  let c0_68 : Index := 0#32
  ![v185.toNat, 48, 0]
def k0_off17 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v195 : Index := Scalar.indexCast v40
  let c88 : Index := 88#32
  let c0_69 : Index := 0#32
  ![v195.toNat, 88, 0]
def k0_off18 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_70 : BitVec 32 := 1#32
  let v198 : BitVec 32 := Scalar.addi v40 c1_i32_70
  let v199 : Index := Scalar.indexCast v198
  let c88_71 : Index := 88#32
  let c0_72 : Index := 0#32
  ![v199.toNat, 88, 0]
def k0_off19 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v202 : Index := Scalar.indexCast v40
  let c64 : Index := 64#32
  let c0_73 : Index := 0#32
  ![v202.toNat, 64, 0]
def k0_off20 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_74 : BitVec 32 := 1#32
  let v211 : BitVec 32 := Scalar.addi v40 c1_i32_74
  let v212 : Index := Scalar.indexCast v211
  let c64_75 : Index := 64#32
  let c0_76 : Index := 0#32
  ![v212.toNat, 64, 0]
def k0_off21 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v221 : Index := Scalar.indexCast v40
  let c72 : Index := 72#32
  let c0_77 : Index := 0#32
  ![v221.toNat, 72, 0]
def k0_off22 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_78 : BitVec 32 := 1#32
  let v228 : BitVec 32 := Scalar.addi v40 c1_i32_78
  let v229 : Index := Scalar.indexCast v228
  let c72_79 : Index := 72#32
  let c0_80 : Index := 0#32
  ![v229.toNat, 72, 0]
def k0_off23 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v236 : Index := Scalar.indexCast v40
  let c80 : Index := 80#32
  let c0_81 : Index := 0#32
  ![v236.toNat, 80, 0]
def k0_off24 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_82 : BitVec 32 := 1#32
  let v243 : BitVec 32 := Scalar.addi v40 c1_i32_82
  let v244 : Index := Scalar.indexCast v243
  let c80_83 : Index := 80#32
  let c0_84 : Index := 0#32
  ![v244.toNat, 80, 0]
def k0_off25 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v265 : Index := Scalar.indexCast v40
  let c25 : Index := 25#32
  let c0_88 : Index := 0#32
  ![v265.toNat, 25, 0]
def k0_off26 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_89 : BitVec 32 := 1#32
  let v268 : BitVec 32 := Scalar.addi v40 c1_i32_89
  let v269 : Index := Scalar.indexCast v268
  let c25_90 : Index := 25#32
  let c0_91 : Index := 0#32
  ![v269.toNat, 25, 0]
def k0_off27 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v272 : Index := Scalar.indexCast v40
  let c1_92 : Index := 1#32
  let c0_93 : Index := 0#32
  ![v272.toNat, 1, 0]
def k0_off28 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_94 : BitVec 32 := 1#32
  let v281 : BitVec 32 := Scalar.addi v40 c1_i32_94
  let v282 : Index := Scalar.indexCast v281
  let c1_95 : Index := 1#32
  let c0_96 : Index := 0#32
  ![v282.toNat, 1, 0]
def k0_off29 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v291 : Index := Scalar.indexCast v40
  let c9 : Index := 9#32
  let c0_97 : Index := 0#32
  ![v291.toNat, 9, 0]
def k0_off30 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_98 : BitVec 32 := 1#32
  let v298 : BitVec 32 := Scalar.addi v40 c1_i32_98
  let v299 : Index := Scalar.indexCast v298
  let c9_99 : Index := 9#32
  let c0_100 : Index := 0#32
  ![v299.toNat, 9, 0]
def k0_off31 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v306 : Index := Scalar.indexCast v40
  let c17 : Index := 17#32
  let c0_101 : Index := 0#32
  ![v306.toNat, 17, 0]
def k0_off32 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_102 : BitVec 32 := 1#32
  let v313 : BitVec 32 := Scalar.addi v40 c1_i32_102
  let v314 : Index := Scalar.indexCast v313
  let c17_103 : Index := 17#32
  let c0_104 : Index := 0#32
  ![v314.toNat, 17, 0]
def k0_off33 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v325 : Index := Scalar.indexCast v40
  let c57 : Index := 57#32
  let c0_105 : Index := 0#32
  ![v325.toNat, 57, 0]
def k0_off34 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_106 : BitVec 32 := 1#32
  let v328 : BitVec 32 := Scalar.addi v40 c1_i32_106
  let v329 : Index := Scalar.indexCast v328
  let c57_107 : Index := 57#32
  let c0_108 : Index := 0#32
  ![v329.toNat, 57, 0]
def k0_off35 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v332 : Index := Scalar.indexCast v40
  let c33 : Index := 33#32
  let c0_109 : Index := 0#32
  ![v332.toNat, 33, 0]
def k0_off36 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_110 : BitVec 32 := 1#32
  let v341 : BitVec 32 := Scalar.addi v40 c1_i32_110
  let v342 : Index := Scalar.indexCast v341
  let c33_111 : Index := 33#32
  let c0_112 : Index := 0#32
  ![v342.toNat, 33, 0]
def k0_off37 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v351 : Index := Scalar.indexCast v40
  let c41 : Index := 41#32
  let c0_113 : Index := 0#32
  ![v351.toNat, 41, 0]
def k0_off38 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_114 : BitVec 32 := 1#32
  let v358 : BitVec 32 := Scalar.addi v40 c1_i32_114
  let v359 : Index := Scalar.indexCast v358
  let c41_115 : Index := 41#32
  let c0_116 : Index := 0#32
  ![v359.toNat, 41, 0]
def k0_off39 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v366 : Index := Scalar.indexCast v40
  let c49 : Index := 49#32
  let c0_117 : Index := 0#32
  ![v366.toNat, 49, 0]
def k0_off40 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_118 : BitVec 32 := 1#32
  let v373 : BitVec 32 := Scalar.addi v40 c1_i32_118
  let v374 : Index := Scalar.indexCast v373
  let c49_119 : Index := 49#32
  let c0_120 : Index := 0#32
  ![v374.toNat, 49, 0]
def k0_off41 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v385 : Index := Scalar.indexCast v40
  let c89 : Index := 89#32
  let c0_121 : Index := 0#32
  ![v385.toNat, 89, 0]
def k0_off42 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_122 : BitVec 32 := 1#32
  let v388 : BitVec 32 := Scalar.addi v40 c1_i32_122
  let v389 : Index := Scalar.indexCast v388
  let c89_123 : Index := 89#32
  let c0_124 : Index := 0#32
  ![v389.toNat, 89, 0]
def k0_off43 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v392 : Index := Scalar.indexCast v40
  let c65 : Index := 65#32
  let c0_125 : Index := 0#32
  ![v392.toNat, 65, 0]
def k0_off44 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_126 : BitVec 32 := 1#32
  let v401 : BitVec 32 := Scalar.addi v40 c1_i32_126
  let v402 : Index := Scalar.indexCast v401
  let c65_127 : Index := 65#32
  let c0_128 : Index := 0#32
  ![v402.toNat, 65, 0]
def k0_off45 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v411 : Index := Scalar.indexCast v40
  let c73 : Index := 73#32
  let c0_129 : Index := 0#32
  ![v411.toNat, 73, 0]
def k0_off46 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_130 : BitVec 32 := 1#32
  let v418 : BitVec 32 := Scalar.addi v40 c1_i32_130
  let v419 : Index := Scalar.indexCast v418
  let c73_131 : Index := 73#32
  let c0_132 : Index := 0#32
  ![v419.toNat, 73, 0]
def k0_off47 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v426 : Index := Scalar.indexCast v40
  let c81 : Index := 81#32
  let c0_133 : Index := 0#32
  ![v426.toNat, 81, 0]
def k0_off48 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_134 : BitVec 32 := 1#32
  let v433 : BitVec 32 := Scalar.addi v40 c1_i32_134
  let v434 : Index := Scalar.indexCast v433
  let c81_135 : Index := 81#32
  let c0_136 : Index := 0#32
  ![v434.toNat, 81, 0]
def k0_off49 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v456 : Index := Scalar.indexCast v40
  let c26 : Index := 26#32
  let c0_140 : Index := 0#32
  ![v456.toNat, 26, 0]
def k0_off50 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_141 : BitVec 32 := 1#32
  let v459 : BitVec 32 := Scalar.addi v40 c1_i32_141
  let v460 : Index := Scalar.indexCast v459
  let c26_142 : Index := 26#32
  let c0_143 : Index := 0#32
  ![v460.toNat, 26, 0]
def k0_off51 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v463 : Index := Scalar.indexCast v40
  let c2_144 : Index := 2#32
  let c0_145 : Index := 0#32
  ![v463.toNat, 2, 0]
def k0_off52 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_146 : BitVec 32 := 1#32
  let v472 : BitVec 32 := Scalar.addi v40 c1_i32_146
  let v473 : Index := Scalar.indexCast v472
  let c2_147 : Index := 2#32
  let c0_148 : Index := 0#32
  ![v473.toNat, 2, 0]
def k0_off53 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v482 : Index := Scalar.indexCast v40
  let c10 : Index := 10#32
  let c0_149 : Index := 0#32
  ![v482.toNat, 10, 0]
def k0_off54 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_150 : BitVec 32 := 1#32
  let v489 : BitVec 32 := Scalar.addi v40 c1_i32_150
  let v490 : Index := Scalar.indexCast v489
  let c10_151 : Index := 10#32
  let c0_152 : Index := 0#32
  ![v490.toNat, 10, 0]
def k0_off55 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v497 : Index := Scalar.indexCast v40
  let c18 : Index := 18#32
  let c0_153 : Index := 0#32
  ![v497.toNat, 18, 0]
def k0_off56 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_154 : BitVec 32 := 1#32
  let v504 : BitVec 32 := Scalar.addi v40 c1_i32_154
  let v505 : Index := Scalar.indexCast v504
  let c18_155 : Index := 18#32
  let c0_156 : Index := 0#32
  ![v505.toNat, 18, 0]
def k0_off57 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v516 : Index := Scalar.indexCast v40
  let c58 : Index := 58#32
  let c0_157 : Index := 0#32
  ![v516.toNat, 58, 0]
def k0_off58 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_158 : BitVec 32 := 1#32
  let v519 : BitVec 32 := Scalar.addi v40 c1_i32_158
  let v520 : Index := Scalar.indexCast v519
  let c58_159 : Index := 58#32
  let c0_160 : Index := 0#32
  ![v520.toNat, 58, 0]
def k0_off59 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v523 : Index := Scalar.indexCast v40
  let c34 : Index := 34#32
  let c0_161 : Index := 0#32
  ![v523.toNat, 34, 0]
def k0_off60 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_162 : BitVec 32 := 1#32
  let v532 : BitVec 32 := Scalar.addi v40 c1_i32_162
  let v533 : Index := Scalar.indexCast v532
  let c34_163 : Index := 34#32
  let c0_164 : Index := 0#32
  ![v533.toNat, 34, 0]
def k0_off61 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v542 : Index := Scalar.indexCast v40
  let c42 : Index := 42#32
  let c0_165 : Index := 0#32
  ![v542.toNat, 42, 0]
def k0_off62 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_166 : BitVec 32 := 1#32
  let v549 : BitVec 32 := Scalar.addi v40 c1_i32_166
  let v550 : Index := Scalar.indexCast v549
  let c42_167 : Index := 42#32
  let c0_168 : Index := 0#32
  ![v550.toNat, 42, 0]
def k0_off63 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v557 : Index := Scalar.indexCast v40
  let c50 : Index := 50#32
  let c0_169 : Index := 0#32
  ![v557.toNat, 50, 0]
def k0_off64 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_170 : BitVec 32 := 1#32
  let v564 : BitVec 32 := Scalar.addi v40 c1_i32_170
  let v565 : Index := Scalar.indexCast v564
  let c50_171 : Index := 50#32
  let c0_172 : Index := 0#32
  ![v565.toNat, 50, 0]
def k0_off65 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v576 : Index := Scalar.indexCast v40
  let c90 : Index := 90#32
  let c0_173 : Index := 0#32
  ![v576.toNat, 90, 0]
def k0_off66 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_174 : BitVec 32 := 1#32
  let v579 : BitVec 32 := Scalar.addi v40 c1_i32_174
  let v580 : Index := Scalar.indexCast v579
  let c90_175 : Index := 90#32
  let c0_176 : Index := 0#32
  ![v580.toNat, 90, 0]
def k0_off67 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v583 : Index := Scalar.indexCast v40
  let c66 : Index := 66#32
  let c0_177 : Index := 0#32
  ![v583.toNat, 66, 0]
def k0_off68 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_178 : BitVec 32 := 1#32
  let v592 : BitVec 32 := Scalar.addi v40 c1_i32_178
  let v593 : Index := Scalar.indexCast v592
  let c66_179 : Index := 66#32
  let c0_180 : Index := 0#32
  ![v593.toNat, 66, 0]
def k0_off69 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v602 : Index := Scalar.indexCast v40
  let c74 : Index := 74#32
  let c0_181 : Index := 0#32
  ![v602.toNat, 74, 0]
def k0_off70 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_182 : BitVec 32 := 1#32
  let v609 : BitVec 32 := Scalar.addi v40 c1_i32_182
  let v610 : Index := Scalar.indexCast v609
  let c74_183 : Index := 74#32
  let c0_184 : Index := 0#32
  ![v610.toNat, 74, 0]
def k0_off71 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v617 : Index := Scalar.indexCast v40
  let c82 : Index := 82#32
  let c0_185 : Index := 0#32
  ![v617.toNat, 82, 0]
def k0_off72 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_186 : BitVec 32 := 1#32
  let v624 : BitVec 32 := Scalar.addi v40 c1_i32_186
  let v625 : Index := Scalar.indexCast v624
  let c82_187 : Index := 82#32
  let c0_188 : Index := 0#32
  ![v625.toNat, 82, 0]
def k0_off73 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v647 : Index := Scalar.indexCast v40
  let c27 : Index := 27#32
  let c0_192 : Index := 0#32
  ![v647.toNat, 27, 0]
def k0_off74 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_193 : BitVec 32 := 1#32
  let v650 : BitVec 32 := Scalar.addi v40 c1_i32_193
  let v651 : Index := Scalar.indexCast v650
  let c27_194 : Index := 27#32
  let c0_195 : Index := 0#32
  ![v651.toNat, 27, 0]
def k0_off75 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v654 : Index := Scalar.indexCast v40
  let c3 : Index := 3#32
  let c0_196 : Index := 0#32
  ![v654.toNat, 3, 0]
def k0_off76 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_197 : BitVec 32 := 1#32
  let v663 : BitVec 32 := Scalar.addi v40 c1_i32_197
  let v664 : Index := Scalar.indexCast v663
  let c3_198 : Index := 3#32
  let c0_199 : Index := 0#32
  ![v664.toNat, 3, 0]
def k0_off77 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v673 : Index := Scalar.indexCast v40
  let c11 : Index := 11#32
  let c0_200 : Index := 0#32
  ![v673.toNat, 11, 0]
def k0_off78 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_201 : BitVec 32 := 1#32
  let v680 : BitVec 32 := Scalar.addi v40 c1_i32_201
  let v681 : Index := Scalar.indexCast v680
  let c11_202 : Index := 11#32
  let c0_203 : Index := 0#32
  ![v681.toNat, 11, 0]
def k0_off79 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v688 : Index := Scalar.indexCast v40
  let c19 : Index := 19#32
  let c0_204 : Index := 0#32
  ![v688.toNat, 19, 0]
def k0_off80 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_205 : BitVec 32 := 1#32
  let v695 : BitVec 32 := Scalar.addi v40 c1_i32_205
  let v696 : Index := Scalar.indexCast v695
  let c19_206 : Index := 19#32
  let c0_207 : Index := 0#32
  ![v696.toNat, 19, 0]
def k0_off81 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v707 : Index := Scalar.indexCast v40
  let c59 : Index := 59#32
  let c0_208 : Index := 0#32
  ![v707.toNat, 59, 0]
def k0_off82 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_209 : BitVec 32 := 1#32
  let v710 : BitVec 32 := Scalar.addi v40 c1_i32_209
  let v711 : Index := Scalar.indexCast v710
  let c59_210 : Index := 59#32
  let c0_211 : Index := 0#32
  ![v711.toNat, 59, 0]
def k0_off83 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v714 : Index := Scalar.indexCast v40
  let c35 : Index := 35#32
  let c0_212 : Index := 0#32
  ![v714.toNat, 35, 0]
def k0_off84 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_213 : BitVec 32 := 1#32
  let v723 : BitVec 32 := Scalar.addi v40 c1_i32_213
  let v724 : Index := Scalar.indexCast v723
  let c35_214 : Index := 35#32
  let c0_215 : Index := 0#32
  ![v724.toNat, 35, 0]
def k0_off85 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v733 : Index := Scalar.indexCast v40
  let c43 : Index := 43#32
  let c0_216 : Index := 0#32
  ![v733.toNat, 43, 0]
def k0_off86 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_217 : BitVec 32 := 1#32
  let v740 : BitVec 32 := Scalar.addi v40 c1_i32_217
  let v741 : Index := Scalar.indexCast v740
  let c43_218 : Index := 43#32
  let c0_219 : Index := 0#32
  ![v741.toNat, 43, 0]
def k0_off87 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v748 : Index := Scalar.indexCast v40
  let c51 : Index := 51#32
  let c0_220 : Index := 0#32
  ![v748.toNat, 51, 0]
def k0_off88 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_221 : BitVec 32 := 1#32
  let v755 : BitVec 32 := Scalar.addi v40 c1_i32_221
  let v756 : Index := Scalar.indexCast v755
  let c51_222 : Index := 51#32
  let c0_223 : Index := 0#32
  ![v756.toNat, 51, 0]
def k0_off89 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v767 : Index := Scalar.indexCast v40
  let c91 : Index := 91#32
  let c0_224 : Index := 0#32
  ![v767.toNat, 91, 0]
def k0_off90 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_225 : BitVec 32 := 1#32
  let v770 : BitVec 32 := Scalar.addi v40 c1_i32_225
  let v771 : Index := Scalar.indexCast v770
  let c91_226 : Index := 91#32
  let c0_227 : Index := 0#32
  ![v771.toNat, 91, 0]
def k0_off91 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v774 : Index := Scalar.indexCast v40
  let c67 : Index := 67#32
  let c0_228 : Index := 0#32
  ![v774.toNat, 67, 0]
def k0_off92 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_229 : BitVec 32 := 1#32
  let v783 : BitVec 32 := Scalar.addi v40 c1_i32_229
  let v784 : Index := Scalar.indexCast v783
  let c67_230 : Index := 67#32
  let c0_231 : Index := 0#32
  ![v784.toNat, 67, 0]
def k0_off93 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v793 : Index := Scalar.indexCast v40
  let c75 : Index := 75#32
  let c0_232 : Index := 0#32
  ![v793.toNat, 75, 0]
def k0_off94 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_233 : BitVec 32 := 1#32
  let v800 : BitVec 32 := Scalar.addi v40 c1_i32_233
  let v801 : Index := Scalar.indexCast v800
  let c75_234 : Index := 75#32
  let c0_235 : Index := 0#32
  ![v801.toNat, 75, 0]
def k0_off95 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v808 : Index := Scalar.indexCast v40
  let c83 : Index := 83#32
  let c0_236 : Index := 0#32
  ![v808.toNat, 83, 0]
def k0_off96 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_237 : BitVec 32 := 1#32
  let v815 : BitVec 32 := Scalar.addi v40 c1_i32_237
  let v816 : Index := Scalar.indexCast v815
  let c83_238 : Index := 83#32
  let c0_239 : Index := 0#32
  ![v816.toNat, 83, 0]
def k0_off97 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v838 : Index := Scalar.indexCast v40
  let c28 : Index := 28#32
  let c0_243 : Index := 0#32
  ![v838.toNat, 28, 0]
def k0_off98 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_244 : BitVec 32 := 1#32
  let v841 : BitVec 32 := Scalar.addi v40 c1_i32_244
  let v842 : Index := Scalar.indexCast v841
  let c28_245 : Index := 28#32
  let c0_246 : Index := 0#32
  ![v842.toNat, 28, 0]
def k0_off99 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v845 : Index := Scalar.indexCast v40
  let c4 : Index := 4#32
  let c0_247 : Index := 0#32
  ![v845.toNat, 4, 0]
def k0_off100 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_248 : BitVec 32 := 1#32
  let v854 : BitVec 32 := Scalar.addi v40 c1_i32_248
  let v855 : Index := Scalar.indexCast v854
  let c4_249 : Index := 4#32
  let c0_250 : Index := 0#32
  ![v855.toNat, 4, 0]
def k0_off101 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v864 : Index := Scalar.indexCast v40
  let c12 : Index := 12#32
  let c0_251 : Index := 0#32
  ![v864.toNat, 12, 0]
def k0_off102 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_252 : BitVec 32 := 1#32
  let v871 : BitVec 32 := Scalar.addi v40 c1_i32_252
  let v872 : Index := Scalar.indexCast v871
  let c12_253 : Index := 12#32
  let c0_254 : Index := 0#32
  ![v872.toNat, 12, 0]
def k0_off103 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v879 : Index := Scalar.indexCast v40
  let c20 : Index := 20#32
  let c0_255 : Index := 0#32
  ![v879.toNat, 20, 0]
def k0_off104 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_256 : BitVec 32 := 1#32
  let v886 : BitVec 32 := Scalar.addi v40 c1_i32_256
  let v887 : Index := Scalar.indexCast v886
  let c20_257 : Index := 20#32
  let c0_258 : Index := 0#32
  ![v887.toNat, 20, 0]
def k0_off105 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v898 : Index := Scalar.indexCast v40
  let c60 : Index := 60#32
  let c0_259 : Index := 0#32
  ![v898.toNat, 60, 0]
def k0_off106 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_260 : BitVec 32 := 1#32
  let v901 : BitVec 32 := Scalar.addi v40 c1_i32_260
  let v902 : Index := Scalar.indexCast v901
  let c60_261 : Index := 60#32
  let c0_262 : Index := 0#32
  ![v902.toNat, 60, 0]
def k0_off107 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v905 : Index := Scalar.indexCast v40
  let c36 : Index := 36#32
  let c0_263 : Index := 0#32
  ![v905.toNat, 36, 0]
def k0_off108 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_264 : BitVec 32 := 1#32
  let v914 : BitVec 32 := Scalar.addi v40 c1_i32_264
  let v915 : Index := Scalar.indexCast v914
  let c36_265 : Index := 36#32
  let c0_266 : Index := 0#32
  ![v915.toNat, 36, 0]
def k0_off109 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v924 : Index := Scalar.indexCast v40
  let c44 : Index := 44#32
  let c0_267 : Index := 0#32
  ![v924.toNat, 44, 0]
def k0_off110 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_268 : BitVec 32 := 1#32
  let v931 : BitVec 32 := Scalar.addi v40 c1_i32_268
  let v932 : Index := Scalar.indexCast v931
  let c44_269 : Index := 44#32
  let c0_270 : Index := 0#32
  ![v932.toNat, 44, 0]
def k0_off111 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v939 : Index := Scalar.indexCast v40
  let c52 : Index := 52#32
  let c0_271 : Index := 0#32
  ![v939.toNat, 52, 0]
def k0_off112 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_272 : BitVec 32 := 1#32
  let v946 : BitVec 32 := Scalar.addi v40 c1_i32_272
  let v947 : Index := Scalar.indexCast v946
  let c52_273 : Index := 52#32
  let c0_274 : Index := 0#32
  ![v947.toNat, 52, 0]
def k0_off113 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v958 : Index := Scalar.indexCast v40
  let c92 : Index := 92#32
  let c0_275 : Index := 0#32
  ![v958.toNat, 92, 0]
def k0_off114 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_276 : BitVec 32 := 1#32
  let v961 : BitVec 32 := Scalar.addi v40 c1_i32_276
  let v962 : Index := Scalar.indexCast v961
  let c92_277 : Index := 92#32
  let c0_278 : Index := 0#32
  ![v962.toNat, 92, 0]
def k0_off115 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v965 : Index := Scalar.indexCast v40
  let c68 : Index := 68#32
  let c0_279 : Index := 0#32
  ![v965.toNat, 68, 0]
def k0_off116 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_280 : BitVec 32 := 1#32
  let v974 : BitVec 32 := Scalar.addi v40 c1_i32_280
  let v975 : Index := Scalar.indexCast v974
  let c68_281 : Index := 68#32
  let c0_282 : Index := 0#32
  ![v975.toNat, 68, 0]
def k0_off117 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v984 : Index := Scalar.indexCast v40
  let c76 : Index := 76#32
  let c0_283 : Index := 0#32
  ![v984.toNat, 76, 0]
def k0_off118 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_284 : BitVec 32 := 1#32
  let v991 : BitVec 32 := Scalar.addi v40 c1_i32_284
  let v992 : Index := Scalar.indexCast v991
  let c76_285 : Index := 76#32
  let c0_286 : Index := 0#32
  ![v992.toNat, 76, 0]
def k0_off119 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v999 : Index := Scalar.indexCast v40
  let c84 : Index := 84#32
  let c0_287 : Index := 0#32
  ![v999.toNat, 84, 0]
def k0_off120 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_288 : BitVec 32 := 1#32
  let v1006 : BitVec 32 := Scalar.addi v40 c1_i32_288
  let v1007 : Index := Scalar.indexCast v1006
  let c84_289 : Index := 84#32
  let c0_290 : Index := 0#32
  ![v1007.toNat, 84, 0]
def k0_off121 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1029 : Index := Scalar.indexCast v40
  let c29 : Index := 29#32
  let c0_294 : Index := 0#32
  ![v1029.toNat, 29, 0]
def k0_off122 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_295 : BitVec 32 := 1#32
  let v1032 : BitVec 32 := Scalar.addi v40 c1_i32_295
  let v1033 : Index := Scalar.indexCast v1032
  let c29_296 : Index := 29#32
  let c0_297 : Index := 0#32
  ![v1033.toNat, 29, 0]
def k0_off123 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1036 : Index := Scalar.indexCast v40
  let c5 : Index := 5#32
  let c0_298 : Index := 0#32
  ![v1036.toNat, 5, 0]
def k0_off124 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_299 : BitVec 32 := 1#32
  let v1045 : BitVec 32 := Scalar.addi v40 c1_i32_299
  let v1046 : Index := Scalar.indexCast v1045
  let c5_300 : Index := 5#32
  let c0_301 : Index := 0#32
  ![v1046.toNat, 5, 0]
def k0_off125 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1055 : Index := Scalar.indexCast v40
  let c13 : Index := 13#32
  let c0_302 : Index := 0#32
  ![v1055.toNat, 13, 0]
def k0_off126 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_303 : BitVec 32 := 1#32
  let v1062 : BitVec 32 := Scalar.addi v40 c1_i32_303
  let v1063 : Index := Scalar.indexCast v1062
  let c13_304 : Index := 13#32
  let c0_305 : Index := 0#32
  ![v1063.toNat, 13, 0]
def k0_off127 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1070 : Index := Scalar.indexCast v40
  let c21 : Index := 21#32
  let c0_306 : Index := 0#32
  ![v1070.toNat, 21, 0]
def k0_off128 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_307 : BitVec 32 := 1#32
  let v1077 : BitVec 32 := Scalar.addi v40 c1_i32_307
  let v1078 : Index := Scalar.indexCast v1077
  let c21_308 : Index := 21#32
  let c0_309 : Index := 0#32
  ![v1078.toNat, 21, 0]
def k0_off129 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1089 : Index := Scalar.indexCast v40
  let c61 : Index := 61#32
  let c0_310 : Index := 0#32
  ![v1089.toNat, 61, 0]
def k0_off130 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_311 : BitVec 32 := 1#32
  let v1092 : BitVec 32 := Scalar.addi v40 c1_i32_311
  let v1093 : Index := Scalar.indexCast v1092
  let c61_312 : Index := 61#32
  let c0_313 : Index := 0#32
  ![v1093.toNat, 61, 0]
def k0_off131 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1096 : Index := Scalar.indexCast v40
  let c37 : Index := 37#32
  let c0_314 : Index := 0#32
  ![v1096.toNat, 37, 0]
def k0_off132 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_315 : BitVec 32 := 1#32
  let v1105 : BitVec 32 := Scalar.addi v40 c1_i32_315
  let v1106 : Index := Scalar.indexCast v1105
  let c37_316 : Index := 37#32
  let c0_317 : Index := 0#32
  ![v1106.toNat, 37, 0]
def k0_off133 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1115 : Index := Scalar.indexCast v40
  let c45 : Index := 45#32
  let c0_318 : Index := 0#32
  ![v1115.toNat, 45, 0]
def k0_off134 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_319 : BitVec 32 := 1#32
  let v1122 : BitVec 32 := Scalar.addi v40 c1_i32_319
  let v1123 : Index := Scalar.indexCast v1122
  let c45_320 : Index := 45#32
  let c0_321 : Index := 0#32
  ![v1123.toNat, 45, 0]
def k0_off135 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1130 : Index := Scalar.indexCast v40
  let c53 : Index := 53#32
  let c0_322 : Index := 0#32
  ![v1130.toNat, 53, 0]
def k0_off136 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_323 : BitVec 32 := 1#32
  let v1137 : BitVec 32 := Scalar.addi v40 c1_i32_323
  let v1138 : Index := Scalar.indexCast v1137
  let c53_324 : Index := 53#32
  let c0_325 : Index := 0#32
  ![v1138.toNat, 53, 0]
def k0_off137 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1149 : Index := Scalar.indexCast v40
  let c93 : Index := 93#32
  let c0_326 : Index := 0#32
  ![v1149.toNat, 93, 0]
def k0_off138 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_327 : BitVec 32 := 1#32
  let v1152 : BitVec 32 := Scalar.addi v40 c1_i32_327
  let v1153 : Index := Scalar.indexCast v1152
  let c93_328 : Index := 93#32
  let c0_329 : Index := 0#32
  ![v1153.toNat, 93, 0]
def k0_off139 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1156 : Index := Scalar.indexCast v40
  let c69 : Index := 69#32
  let c0_330 : Index := 0#32
  ![v1156.toNat, 69, 0]
def k0_off140 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_331 : BitVec 32 := 1#32
  let v1165 : BitVec 32 := Scalar.addi v40 c1_i32_331
  let v1166 : Index := Scalar.indexCast v1165
  let c69_332 : Index := 69#32
  let c0_333 : Index := 0#32
  ![v1166.toNat, 69, 0]
def k0_off141 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1175 : Index := Scalar.indexCast v40
  let c77 : Index := 77#32
  let c0_334 : Index := 0#32
  ![v1175.toNat, 77, 0]
def k0_off142 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_335 : BitVec 32 := 1#32
  let v1182 : BitVec 32 := Scalar.addi v40 c1_i32_335
  let v1183 : Index := Scalar.indexCast v1182
  let c77_336 : Index := 77#32
  let c0_337 : Index := 0#32
  ![v1183.toNat, 77, 0]
def k0_off143 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1190 : Index := Scalar.indexCast v40
  let c85 : Index := 85#32
  let c0_338 : Index := 0#32
  ![v1190.toNat, 85, 0]
def k0_off144 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_339 : BitVec 32 := 1#32
  let v1197 : BitVec 32 := Scalar.addi v40 c1_i32_339
  let v1198 : Index := Scalar.indexCast v1197
  let c85_340 : Index := 85#32
  let c0_341 : Index := 0#32
  ![v1198.toNat, 85, 0]
def k0_off145 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1220 : Index := Scalar.indexCast v40
  let c30 : Index := 30#32
  let c0_345 : Index := 0#32
  ![v1220.toNat, 30, 0]
def k0_off146 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_346 : BitVec 32 := 1#32
  let v1223 : BitVec 32 := Scalar.addi v40 c1_i32_346
  let v1224 : Index := Scalar.indexCast v1223
  let c30_347 : Index := 30#32
  let c0_348 : Index := 0#32
  ![v1224.toNat, 30, 0]
def k0_off147 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1227 : Index := Scalar.indexCast v40
  let c6 : Index := 6#32
  let c0_349 : Index := 0#32
  ![v1227.toNat, 6, 0]
def k0_off148 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_350 : BitVec 32 := 1#32
  let v1236 : BitVec 32 := Scalar.addi v40 c1_i32_350
  let v1237 : Index := Scalar.indexCast v1236
  let c6_351 : Index := 6#32
  let c0_352 : Index := 0#32
  ![v1237.toNat, 6, 0]
def k0_off149 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1246 : Index := Scalar.indexCast v40
  let c14 : Index := 14#32
  let c0_353 : Index := 0#32
  ![v1246.toNat, 14, 0]
def k0_off150 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_354 : BitVec 32 := 1#32
  let v1253 : BitVec 32 := Scalar.addi v40 c1_i32_354
  let v1254 : Index := Scalar.indexCast v1253
  let c14_355 : Index := 14#32
  let c0_356 : Index := 0#32
  ![v1254.toNat, 14, 0]
def k0_off151 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1261 : Index := Scalar.indexCast v40
  let c22 : Index := 22#32
  let c0_357 : Index := 0#32
  ![v1261.toNat, 22, 0]
def k0_off152 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_358 : BitVec 32 := 1#32
  let v1268 : BitVec 32 := Scalar.addi v40 c1_i32_358
  let v1269 : Index := Scalar.indexCast v1268
  let c22_359 : Index := 22#32
  let c0_360 : Index := 0#32
  ![v1269.toNat, 22, 0]
def k0_off153 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1280 : Index := Scalar.indexCast v40
  let c62 : Index := 62#32
  let c0_361 : Index := 0#32
  ![v1280.toNat, 62, 0]
def k0_off154 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_362 : BitVec 32 := 1#32
  let v1283 : BitVec 32 := Scalar.addi v40 c1_i32_362
  let v1284 : Index := Scalar.indexCast v1283
  let c62_363 : Index := 62#32
  let c0_364 : Index := 0#32
  ![v1284.toNat, 62, 0]
def k0_off155 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1287 : Index := Scalar.indexCast v40
  let c38 : Index := 38#32
  let c0_365 : Index := 0#32
  ![v1287.toNat, 38, 0]
def k0_off156 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_366 : BitVec 32 := 1#32
  let v1296 : BitVec 32 := Scalar.addi v40 c1_i32_366
  let v1297 : Index := Scalar.indexCast v1296
  let c38_367 : Index := 38#32
  let c0_368 : Index := 0#32
  ![v1297.toNat, 38, 0]
def k0_off157 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1306 : Index := Scalar.indexCast v40
  let c46 : Index := 46#32
  let c0_369 : Index := 0#32
  ![v1306.toNat, 46, 0]
def k0_off158 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_370 : BitVec 32 := 1#32
  let v1313 : BitVec 32 := Scalar.addi v40 c1_i32_370
  let v1314 : Index := Scalar.indexCast v1313
  let c46_371 : Index := 46#32
  let c0_372 : Index := 0#32
  ![v1314.toNat, 46, 0]
def k0_off159 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1321 : Index := Scalar.indexCast v40
  let c54 : Index := 54#32
  let c0_373 : Index := 0#32
  ![v1321.toNat, 54, 0]
def k0_off160 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_374 : BitVec 32 := 1#32
  let v1328 : BitVec 32 := Scalar.addi v40 c1_i32_374
  let v1329 : Index := Scalar.indexCast v1328
  let c54_375 : Index := 54#32
  let c0_376 : Index := 0#32
  ![v1329.toNat, 54, 0]
def k0_off161 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1340 : Index := Scalar.indexCast v40
  let c94 : Index := 94#32
  let c0_377 : Index := 0#32
  ![v1340.toNat, 94, 0]
def k0_off162 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_378 : BitVec 32 := 1#32
  let v1343 : BitVec 32 := Scalar.addi v40 c1_i32_378
  let v1344 : Index := Scalar.indexCast v1343
  let c94_379 : Index := 94#32
  let c0_380 : Index := 0#32
  ![v1344.toNat, 94, 0]
def k0_off163 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1347 : Index := Scalar.indexCast v40
  let c70 : Index := 70#32
  let c0_381 : Index := 0#32
  ![v1347.toNat, 70, 0]
def k0_off164 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_382 : BitVec 32 := 1#32
  let v1356 : BitVec 32 := Scalar.addi v40 c1_i32_382
  let v1357 : Index := Scalar.indexCast v1356
  let c70_383 : Index := 70#32
  let c0_384 : Index := 0#32
  ![v1357.toNat, 70, 0]
def k0_off165 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1366 : Index := Scalar.indexCast v40
  let c78 : Index := 78#32
  let c0_385 : Index := 0#32
  ![v1366.toNat, 78, 0]
def k0_off166 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_386 : BitVec 32 := 1#32
  let v1373 : BitVec 32 := Scalar.addi v40 c1_i32_386
  let v1374 : Index := Scalar.indexCast v1373
  let c78_387 : Index := 78#32
  let c0_388 : Index := 0#32
  ![v1374.toNat, 78, 0]
def k0_off167 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1381 : Index := Scalar.indexCast v40
  let c86 : Index := 86#32
  let c0_389 : Index := 0#32
  ![v1381.toNat, 86, 0]
def k0_off168 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_390 : BitVec 32 := 1#32
  let v1388 : BitVec 32 := Scalar.addi v40 c1_i32_390
  let v1389 : Index := Scalar.indexCast v1388
  let c86_391 : Index := 86#32
  let c0_392 : Index := 0#32
  ![v1389.toNat, 86, 0]
def k0_off169 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1411 : Index := Scalar.indexCast v40
  let c31 : Index := 31#32
  let c0_396 : Index := 0#32
  ![v1411.toNat, 31, 0]
def k0_off170 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_397 : BitVec 32 := 1#32
  let v1414 : BitVec 32 := Scalar.addi v40 c1_i32_397
  let v1415 : Index := Scalar.indexCast v1414
  let c31_398 : Index := 31#32
  let c0_399 : Index := 0#32
  ![v1415.toNat, 31, 0]
def k0_off171 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1418 : Index := Scalar.indexCast v40
  let c7 : Index := 7#32
  let c0_400 : Index := 0#32
  ![v1418.toNat, 7, 0]
def k0_off172 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_401 : BitVec 32 := 1#32
  let v1427 : BitVec 32 := Scalar.addi v40 c1_i32_401
  let v1428 : Index := Scalar.indexCast v1427
  let c7_402 : Index := 7#32
  let c0_403 : Index := 0#32
  ![v1428.toNat, 7, 0]
def k0_off173 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1437 : Index := Scalar.indexCast v40
  let c15 : Index := 15#32
  let c0_404 : Index := 0#32
  ![v1437.toNat, 15, 0]
def k0_off174 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_405 : BitVec 32 := 1#32
  let v1444 : BitVec 32 := Scalar.addi v40 c1_i32_405
  let v1445 : Index := Scalar.indexCast v1444
  let c15_406 : Index := 15#32
  let c0_407 : Index := 0#32
  ![v1445.toNat, 15, 0]
def k0_off175 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1452 : Index := Scalar.indexCast v40
  let c23 : Index := 23#32
  let c0_408 : Index := 0#32
  ![v1452.toNat, 23, 0]
def k0_off176 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_409 : BitVec 32 := 1#32
  let v1459 : BitVec 32 := Scalar.addi v40 c1_i32_409
  let v1460 : Index := Scalar.indexCast v1459
  let c23_410 : Index := 23#32
  let c0_411 : Index := 0#32
  ![v1460.toNat, 23, 0]
def k0_off177 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1471 : Index := Scalar.indexCast v40
  let c63 : Index := 63#32
  let c0_412 : Index := 0#32
  ![v1471.toNat, 63, 0]
def k0_off178 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_413 : BitVec 32 := 1#32
  let v1474 : BitVec 32 := Scalar.addi v40 c1_i32_413
  let v1475 : Index := Scalar.indexCast v1474
  let c63_414 : Index := 63#32
  let c0_415 : Index := 0#32
  ![v1475.toNat, 63, 0]
def k0_off179 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1478 : Index := Scalar.indexCast v40
  let c39 : Index := 39#32
  let c0_416 : Index := 0#32
  ![v1478.toNat, 39, 0]
def k0_off180 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_417 : BitVec 32 := 1#32
  let v1487 : BitVec 32 := Scalar.addi v40 c1_i32_417
  let v1488 : Index := Scalar.indexCast v1487
  let c39_418 : Index := 39#32
  let c0_419 : Index := 0#32
  ![v1488.toNat, 39, 0]
def k0_off181 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1497 : Index := Scalar.indexCast v40
  let c47 : Index := 47#32
  let c0_420 : Index := 0#32
  ![v1497.toNat, 47, 0]
def k0_off182 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_421 : BitVec 32 := 1#32
  let v1504 : BitVec 32 := Scalar.addi v40 c1_i32_421
  let v1505 : Index := Scalar.indexCast v1504
  let c47_422 : Index := 47#32
  let c0_423 : Index := 0#32
  ![v1505.toNat, 47, 0]
def k0_off183 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1512 : Index := Scalar.indexCast v40
  let c55 : Index := 55#32
  let c0_424 : Index := 0#32
  ![v1512.toNat, 55, 0]
def k0_off184 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_425 : BitVec 32 := 1#32
  let v1519 : BitVec 32 := Scalar.addi v40 c1_i32_425
  let v1520 : Index := Scalar.indexCast v1519
  let c55_426 : Index := 55#32
  let c0_427 : Index := 0#32
  ![v1520.toNat, 55, 0]
def k0_off185 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1531 : Index := Scalar.indexCast v40
  let c95 : Index := 95#32
  let c0_428 : Index := 0#32
  ![v1531.toNat, 95, 0]
def k0_off186 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_429 : BitVec 32 := 1#32
  let v1534 : BitVec 32 := Scalar.addi v40 c1_i32_429
  let v1535 : Index := Scalar.indexCast v1534
  let c95_430 : Index := 95#32
  let c0_431 : Index := 0#32
  ![v1535.toNat, 95, 0]
def k0_off187 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1538 : Index := Scalar.indexCast v40
  let c71 : Index := 71#32
  let c0_432 : Index := 0#32
  ![v1538.toNat, 71, 0]
def k0_off188 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_433 : BitVec 32 := 1#32
  let v1547 : BitVec 32 := Scalar.addi v40 c1_i32_433
  let v1548 : Index := Scalar.indexCast v1547
  let c71_434 : Index := 71#32
  let c0_435 : Index := 0#32
  ![v1548.toNat, 71, 0]
def k0_off189 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1557 : Index := Scalar.indexCast v40
  let c79 : Index := 79#32
  let c0_436 : Index := 0#32
  ![v1557.toNat, 79, 0]
def k0_off190 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_437 : BitVec 32 := 1#32
  let v1564 : BitVec 32 := Scalar.addi v40 c1_i32_437
  let v1565 : Index := Scalar.indexCast v1564
  let c79_438 : Index := 79#32
  let c0_439 : Index := 0#32
  ![v1565.toNat, 79, 0]
def k0_off191 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let v1572 : Index := Scalar.indexCast v40
  let c87 : Index := 87#32
  let c0_440 : Index := 0#32
  ![v1572.toNat, 87, 0]
def k0_off192 (i : grid0.Coords) (c0_i32_1 : BitVec 32) : Fin 3 → Nat :=
  let c14_i32 : BitVec 32 := 14#32
  let c0_i32_13 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c1_i32 : BitVec 32 := 1#32
  let v21 : BitVec 32 := Scalar.subi v4 c1_i32
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let v39 : BitVec 32 := Scalar.maxsi c0_i32_13 v38
  let v40 : BitVec 32 := Scalar.minsi c14_i32 v39
  let c1_i32_441 : BitVec 32 := 1#32
  let v1579 : BitVec 32 := Scalar.addi v40 c1_i32_441
  let v1580 : Index := Scalar.indexCast v1579
  let c87_442 : Index := 87#32
  let c0_443 : Index := 0#32
  ![v1580.toNat, 87, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x96x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x12x8x16x16 : Shape := ⟨5, ![4, 12, 8, 16, 16]⟩
abbrev S4x512x512 : Shape := ⟨3, ![4, 512, 512]⟩
abbrev S4x3x512x512 : Shape := ⟨4, ![4, 3, 512, 512]⟩
abbrev S512 : Shape := ⟨1, ![512]⟩
abbrev S_ : Shape := ⟨0, ![]⟩
abbrev S1x1x512 : Shape := ⟨3, ![1, 1, 512]⟩
abbrev S1x512x1 : Shape := ⟨3, ![1, 512, 1]⟩
abbrev S4x12x512x512 : Shape := ⟨4, ![4, 12, 512, 512]⟩
abbrev S4x1x512x512 : Shape := ⟨4, ![4, 1, 512, 512]⟩
abbrev S4x512x512x1 : Shape := ⟨4, ![4, 512, 512, 1]⟩
abbrev S4x512x512x3 : Shape := ⟨4, ![4, 512, 512, 3]⟩
abbrev S4x3x4x512x512 : Shape := ⟨5, ![4, 3, 4, 512, 512]⟩
abbrev S4x3x3x512x512 : Shape := ⟨5, ![4, 3, 3, 512, 512]⟩
abbrev S4x3x1x512x512 : Shape := ⟨5, ![4, 3, 1, 512, 512]⟩

abbrev nBuf : Space → Nat
  | .hbm => 931
  | .vmem => 0
  | .smem => 0
  | _ => 0

abbrev hbmTy0_0 (i : Nat) : BufTy := match i % 128 with
  | 0 => ⟨S4x12x8x16x16, .f32⟩
  | 1 => ⟨S4x512x512, .f32⟩
  | 2 => ⟨S4x3x512x512, .f32⟩
  | 3 => ⟨S512, .f32⟩
  | 4 => ⟨S_, .f32⟩
  | 5 => ⟨S512, .f32⟩
  | 6 => ⟨S512, .f32⟩
  | 7 => ⟨S_, .f32⟩
  | 8 => ⟨S512, .f32⟩
  | 9 => ⟨S512, .f32⟩
  | 10 => ⟨S_, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .f32⟩
  | 23 => ⟨S1x1x512, .f32⟩
  | 24 => ⟨S4x512x512, .f32⟩
  | 25 => ⟨S1x512x1, .f32⟩
  | 26 => ⟨S4x512x512, .f32⟩
  | 27 => ⟨S_, .f32⟩
  | 28 => ⟨S4x512x512, .f32⟩
  | 29 => ⟨S4x512x512, .f32⟩
  | 30 => ⟨S_, .f32⟩
  | 31 => ⟨S4x512x512, .f32⟩
  | 32 => ⟨S4x512x512, .f32⟩
  | 33 => ⟨S4x512x512, .f32⟩
  | 34 => ⟨S_, .f32⟩
  | 35 => ⟨S4x512x512, .f32⟩
  | 36 => ⟨S4x512x512, .f32⟩
  | 37 => ⟨S4x512x512, .f32⟩
  | 38 => ⟨S_, .f32⟩
  | 39 => ⟨S4x512x512, .f32⟩
  | 40 => ⟨S4x512x512, .f32⟩
  | 41 => ⟨S4x512x512, .f32⟩
  | 42 => ⟨S_, .f32⟩
  | 43 => ⟨S4x12x512x512, .f32⟩
  | 44 => ⟨S_, .f32⟩
  | 45 => ⟨S4x512x512, .f32⟩
  | 46 => ⟨S4x512x512, .f32⟩
  | 47 => ⟨S_, .i32⟩
  | 48 => ⟨S_, .i32⟩
  | 49 => ⟨S_, .f32⟩
  | 50 => ⟨S4x512x512, .f32⟩
  | 51 => ⟨S4x512x512, .f32⟩
  | 52 => ⟨S_, .f32⟩
  | 53 => ⟨S4x512x512, .f32⟩
  | 54 => ⟨S4x512x512, .f32⟩
  | 55 => ⟨S4x512x512, .i32⟩
  | 56 => ⟨S_, .f32⟩
  | 57 => ⟨S4x512x512, .f32⟩
  | 58 => ⟨S4x512x512, .f32⟩
  | 59 => ⟨S_, .i32⟩
  | 60 => ⟨S_, .i32⟩
  | 61 => ⟨S_, .f32⟩
  | 62 => ⟨S4x512x512, .f32⟩
  | 63 => ⟨S4x512x512, .f32⟩
  | 64 => ⟨S_, .f32⟩
  | 65 => ⟨S4x512x512, .f32⟩
  | 66 => ⟨S4x512x512, .f32⟩
  | 67 => ⟨S4x512x512, .i32⟩
  | 68 => ⟨S_, .f32⟩
  | 69 => ⟨S4x512x512, .f32⟩
  | 70 => ⟨S4x512x512, .f32⟩
  | 71 => ⟨S_, .i32⟩
  | 72 => ⟨S_, .i32⟩
  | 73 => ⟨S_, .f32⟩
  | 74 => ⟨S4x512x512, .f32⟩
  | 75 => ⟨S4x512x512, .f32⟩
  | 76 => ⟨S_, .f32⟩
  | 77 => ⟨S4x512x512, .f32⟩
  | 78 => ⟨S4x512x512, .f32⟩
  | 79 => ⟨S4x512x512, .i32⟩
  | 80 => ⟨S_, .f32⟩
  | 81 => ⟨S4x512x512, .f32⟩
  | 82 => ⟨S4x512x512, .f32⟩
  | 83 => ⟨S_, .f32⟩
  | 84 => ⟨S4x512x512, .f32⟩
  | 85 => ⟨S4x512x512, .f32⟩
  | 86 => ⟨S4x512x512, .f32⟩
  | 87 => ⟨S4x512x512, .f32⟩
  | 88 => ⟨S_, .f32⟩
  | 89 => ⟨S4x512x512, .f32⟩
  | 90 => ⟨S4x512x512, .f32⟩
  | 91 => ⟨S_, .f32⟩
  | 92 => ⟨S4x512x512, .f32⟩
  | 93 => ⟨S4x512x512, .f32⟩
  | 94 => ⟨S_, .f32⟩
  | 95 => ⟨S4x512x512, .f32⟩
  | 96 => ⟨S4x512x512, .f32⟩
  | 97 => ⟨S_, .f32⟩
  | 98 => ⟨S4x512x512, .f32⟩
  | 99 => ⟨S4x512x512, .f32⟩
  | 100 => ⟨S4x512x512, .f32⟩
  | 101 => ⟨S4x512x512, .f32⟩
  | 102 => ⟨S_, .f32⟩
  | 103 => ⟨S4x512x512, .f32⟩
  | 104 => ⟨S4x512x512, .f32⟩
  | 105 => ⟨S_, .f32⟩
  | 106 => ⟨S4x512x512, .f32⟩
  | 107 => ⟨S4x512x512, .f32⟩
  | 108 => ⟨S_, .f32⟩
  | 109 => ⟨S4x512x512, .f32⟩
  | 110 => ⟨S4x512x512, .f32⟩
  | 111 => ⟨S_, .f32⟩
  | 112 => ⟨S4x512x512, .f32⟩
  | 113 => ⟨S4x512x512, .f32⟩
  | 114 => ⟨S4x512x512, .f32⟩
  | 115 => ⟨S4x512x512, .f32⟩
  | 116 => ⟨S_, .f32⟩
  | 117 => ⟨S4x512x512, .f32⟩
  | 118 => ⟨S4x512x512, .f32⟩
  | 119 => ⟨S_, .f32⟩
  | 120 => ⟨S4x512x512, .f32⟩
  | 121 => ⟨S4x512x512, .f32⟩
  | 122 => ⟨S4x512x512, .f32⟩
  | 123 => ⟨S4x512x512, .f32⟩
  | 124 => ⟨S4x1x512x512, .f32⟩
  | 125 => ⟨S_, .i32⟩
  | 126 => ⟨S4x512x512, .i32⟩
  | 127 => ⟨S4x512x512, .i1⟩
  | _ => ⟨S4x12x8x16x16, .f32⟩

abbrev hbmTy0_1 (i : Nat) : BufTy := match i % 128 with
  | 0 => ⟨S_, .i32⟩
  | 1 => ⟨S4x512x512, .i32⟩
  | 2 => ⟨S4x512x512, .i32⟩
  | 3 => ⟨S4x512x512, .i32⟩
  | 4 => ⟨S_, .i32⟩
  | 5 => ⟨S4x512x512, .i32⟩
  | 6 => ⟨S4x512x512, .i1⟩
  | 7 => ⟨S_, .i32⟩
  | 8 => ⟨S4x512x512, .i32⟩
  | 9 => ⟨S4x512x512, .i32⟩
  | 10 => ⟨S4x512x512, .i32⟩
  | 11 => ⟨S_, .i32⟩
  | 12 => ⟨S4x512x512, .i32⟩
  | 13 => ⟨S4x512x512, .i1⟩
  | 14 => ⟨S_, .i32⟩
  | 15 => ⟨S4x512x512, .i32⟩
  | 16 => ⟨S4x512x512, .i32⟩
  | 17 => ⟨S4x512x512, .i32⟩
  | 18 => ⟨S4x512x512x1, .i32⟩
  | 19 => ⟨S4x512x512x1, .i32⟩
  | 20 => ⟨S4x512x512x1, .i32⟩
  | 21 => ⟨S4x512x512x3, .i32⟩
  | 22 => ⟨S4x12x512x512, .f32⟩
  | 23 => ⟨S4x12x512x512, .f32⟩
  | 24 => ⟨S4x12x512x512, .f32⟩
  | 25 => ⟨S4x12x512x512, .f32⟩
  | 26 => ⟨S_, .f32⟩
  | 27 => ⟨S4x512x512, .f32⟩
  | 28 => ⟨S4x512x512, .f32⟩
  | 29 => ⟨S_, .i32⟩
  | 30 => ⟨S_, .i32⟩
  | 31 => ⟨S_, .f32⟩
  | 32 => ⟨S4x512x512, .f32⟩
  | 33 => ⟨S4x512x512, .f32⟩
  | 34 => ⟨S_, .f32⟩
  | 35 => ⟨S4x512x512, .f32⟩
  | 36 => ⟨S4x512x512, .f32⟩
  | 37 => ⟨S4x512x512, .i32⟩
  | 38 => ⟨S_, .f32⟩
  | 39 => ⟨S4x512x512, .f32⟩
  | 40 => ⟨S4x512x512, .f32⟩
  | 41 => ⟨S_, .i32⟩
  | 42 => ⟨S_, .i32⟩
  | 43 => ⟨S_, .f32⟩
  | 44 => ⟨S4x512x512, .f32⟩
  | 45 => ⟨S4x512x512, .f32⟩
  | 46 => ⟨S_, .f32⟩
  | 47 => ⟨S4x512x512, .f32⟩
  | 48 => ⟨S4x512x512, .f32⟩
  | 49 => ⟨S4x512x512, .i32⟩
  | 50 => ⟨S_, .f32⟩
  | 51 => ⟨S4x512x512, .f32⟩
  | 52 => ⟨S4x512x512, .f32⟩
  | 53 => ⟨S_, .i32⟩
  | 54 => ⟨S_, .i32⟩
  | 55 => ⟨S_, .f32⟩
  | 56 => ⟨S4x512x512, .f32⟩
  | 57 => ⟨S4x512x512, .f32⟩
  | 58 => ⟨S_, .f32⟩
  | 59 => ⟨S4x512x512, .f32⟩
  | 60 => ⟨S4x512x512, .f32⟩
  | 61 => ⟨S4x512x512, .i32⟩
  | 62 => ⟨S_, .f32⟩
  | 63 => ⟨S4x512x512, .f32⟩
  | 64 => ⟨S4x512x512, .f32⟩
  | 65 => ⟨S_, .f32⟩
  | 66 => ⟨S4x512x512, .f32⟩
  | 67 => ⟨S4x512x512, .f32⟩
  | 68 => ⟨S4x512x512, .f32⟩
  | 69 => ⟨S4x512x512, .f32⟩
  | 70 => ⟨S_, .f32⟩
  | 71 => ⟨S4x512x512, .f32⟩
  | 72 => ⟨S4x512x512, .f32⟩
  | 73 => ⟨S_, .f32⟩
  | 74 => ⟨S4x512x512, .f32⟩
  | 75 => ⟨S4x512x512, .f32⟩
  | 76 => ⟨S_, .f32⟩
  | 77 => ⟨S4x512x512, .f32⟩
  | 78 => ⟨S4x512x512, .f32⟩
  | 79 => ⟨S_, .f32⟩
  | 80 => ⟨S4x512x512, .f32⟩
  | 81 => ⟨S4x512x512, .f32⟩
  | 82 => ⟨S4x512x512, .f32⟩
  | 83 => ⟨S4x512x512, .f32⟩
  | 84 => ⟨S_, .f32⟩
  | 85 => ⟨S4x512x512, .f32⟩
  | 86 => ⟨S4x512x512, .f32⟩
  | 87 => ⟨S_, .f32⟩
  | 88 => ⟨S4x512x512, .f32⟩
  | 89 => ⟨S4x512x512, .f32⟩
  | 90 => ⟨S_, .f32⟩
  | 91 => ⟨S4x512x512, .f32⟩
  | 92 => ⟨S4x512x512, .f32⟩
  | 93 => ⟨S_, .f32⟩
  | 94 => ⟨S4x512x512, .f32⟩
  | 95 => ⟨S4x512x512, .f32⟩
  | 96 => ⟨S4x512x512, .f32⟩
  | 97 => ⟨S4x512x512, .f32⟩
  | 98 => ⟨S_, .f32⟩
  | 99 => ⟨S4x512x512, .f32⟩
  | 100 => ⟨S4x512x512, .f32⟩
  | 101 => ⟨S_, .f32⟩
  | 102 => ⟨S4x512x512, .f32⟩
  | 103 => ⟨S4x512x512, .f32⟩
  | 104 => ⟨S4x512x512, .f32⟩
  | 105 => ⟨S4x512x512, .f32⟩
  | 106 => ⟨S4x1x512x512, .f32⟩
  | 107 => ⟨S_, .i32⟩
  | 108 => ⟨S4x512x512, .i32⟩
  | 109 => ⟨S4x512x512, .i1⟩
  | 110 => ⟨S_, .i32⟩
  | 111 => ⟨S4x512x512, .i32⟩
  | 112 => ⟨S4x512x512, .i32⟩
  | 113 => ⟨S4x512x512, .i32⟩
  | 114 => ⟨S_, .i32⟩
  | 115 => ⟨S4x512x512, .i32⟩
  | 116 => ⟨S4x512x512, .i1⟩
  | 117 => ⟨S_, .i32⟩
  | 118 => ⟨S4x512x512, .i32⟩
  | 119 => ⟨S4x512x512, .i32⟩
  | 120 => ⟨S4x512x512, .i32⟩
  | 121 => ⟨S_, .i32⟩
  | 122 => ⟨S4x512x512, .i32⟩
  | 123 => ⟨S4x512x512, .i1⟩
  | 124 => ⟨S_, .i32⟩
  | 125 => ⟨S4x512x512, .i32⟩
  | 126 => ⟨S4x512x512, .i32⟩
  | 127 => ⟨S4x512x512, .i32⟩
  | _ => ⟨S4x12x8x16x16, .f32⟩

abbrev hbmTy0_2 (i : Nat) : BufTy := match i % 128 with
  | 0 => ⟨S4x512x512x1, .i32⟩
  | 1 => ⟨S4x512x512x1, .i32⟩
  | 2 => ⟨S4x512x512x1, .i32⟩
  | 3 => ⟨S4x512x512x3, .i32⟩
  | 4 => ⟨S4x12x512x512, .f32⟩
  | 5 => ⟨S4x12x512x512, .f32⟩
  | 6 => ⟨S4x12x512x512, .f32⟩
  | 7 => ⟨S4x12x512x512, .f32⟩
  | 8 => ⟨S_, .f32⟩
  | 9 => ⟨S4x512x512, .f32⟩
  | 10 => ⟨S4x512x512, .f32⟩
  | 11 => ⟨S_, .i32⟩
  | 12 => ⟨S_, .i32⟩
  | 13 => ⟨S_, .f32⟩
  | 14 => ⟨S4x512x512, .f32⟩
  | 15 => ⟨S4x512x512, .f32⟩
  | 16 => ⟨S_, .f32⟩
  | 17 => ⟨S4x512x512, .f32⟩
  | 18 => ⟨S4x512x512, .f32⟩
  | 19 => ⟨S4x512x512, .i32⟩
  | 20 => ⟨S_, .f32⟩
  | 21 => ⟨S4x512x512, .f32⟩
  | 22 => ⟨S4x512x512, .f32⟩
  | 23 => ⟨S_, .i32⟩
  | 24 => ⟨S_, .i32⟩
  | 25 => ⟨S_, .f32⟩
  | 26 => ⟨S4x512x512, .f32⟩
  | 27 => ⟨S4x512x512, .f32⟩
  | 28 => ⟨S_, .f32⟩
  | 29 => ⟨S4x512x512, .f32⟩
  | 30 => ⟨S4x512x512, .f32⟩
  | 31 => ⟨S4x512x512, .i32⟩
  | 32 => ⟨S_, .f32⟩
  | 33 => ⟨S4x512x512, .f32⟩
  | 34 => ⟨S4x512x512, .f32⟩
  | 35 => ⟨S_, .i32⟩
  | 36 => ⟨S_, .i32⟩
  | 37 => ⟨S_, .f32⟩
  | 38 => ⟨S4x512x512, .f32⟩
  | 39 => ⟨S4x512x512, .f32⟩
  | 40 => ⟨S_, .f32⟩
  | 41 => ⟨S4x512x512, .f32⟩
  | 42 => ⟨S4x512x512, .f32⟩
  | 43 => ⟨S4x512x512, .i32⟩
  | 44 => ⟨S_, .f32⟩
  | 45 => ⟨S4x512x512, .f32⟩
  | 46 => ⟨S4x512x512, .f32⟩
  | 47 => ⟨S_, .f32⟩
  | 48 => ⟨S4x512x512, .f32⟩
  | 49 => ⟨S4x512x512, .f32⟩
  | 50 => ⟨S4x512x512, .f32⟩
  | 51 => ⟨S4x512x512, .f32⟩
  | 52 => ⟨S_, .f32⟩
  | 53 => ⟨S4x512x512, .f32⟩
  | 54 => ⟨S4x512x512, .f32⟩
  | 55 => ⟨S_, .f32⟩
  | 56 => ⟨S4x512x512, .f32⟩
  | 57 => ⟨S4x512x512, .f32⟩
  | 58 => ⟨S_, .f32⟩
  | 59 => ⟨S4x512x512, .f32⟩
  | 60 => ⟨S4x512x512, .f32⟩
  | 61 => ⟨S_, .f32⟩
  | 62 => ⟨S4x512x512, .f32⟩
  | 63 => ⟨S4x512x512, .f32⟩
  | 64 => ⟨S4x512x512, .f32⟩
  | 65 => ⟨S4x512x512, .f32⟩
  | 66 => ⟨S_, .f32⟩
  | 67 => ⟨S4x512x512, .f32⟩
  | 68 => ⟨S4x512x512, .f32⟩
  | 69 => ⟨S_, .f32⟩
  | 70 => ⟨S4x512x512, .f32⟩
  | 71 => ⟨S4x512x512, .f32⟩
  | 72 => ⟨S_, .f32⟩
  | 73 => ⟨S4x512x512, .f32⟩
  | 74 => ⟨S4x512x512, .f32⟩
  | 75 => ⟨S_, .f32⟩
  | 76 => ⟨S4x512x512, .f32⟩
  | 77 => ⟨S4x512x512, .f32⟩
  | 78 => ⟨S4x512x512, .f32⟩
  | 79 => ⟨S4x512x512, .f32⟩
  | 80 => ⟨S_, .f32⟩
  | 81 => ⟨S4x512x512, .f32⟩
  | 82 => ⟨S4x512x512, .f32⟩
  | 83 => ⟨S_, .f32⟩
  | 84 => ⟨S4x512x512, .f32⟩
  | 85 => ⟨S4x512x512, .f32⟩
  | 86 => ⟨S4x512x512, .f32⟩
  | 87 => ⟨S4x512x512, .f32⟩
  | 88 => ⟨S4x1x512x512, .f32⟩
  | 89 => ⟨S_, .i32⟩
  | 90 => ⟨S4x512x512, .i32⟩
  | 91 => ⟨S4x512x512, .i1⟩
  | 92 => ⟨S_, .i32⟩
  | 93 => ⟨S4x512x512, .i32⟩
  | 94 => ⟨S4x512x512, .i32⟩
  | 95 => ⟨S4x512x512, .i32⟩
  | 96 => ⟨S_, .i32⟩
  | 97 => ⟨S4x512x512, .i32⟩
  | 98 => ⟨S4x512x512, .i1⟩
  | 99 => ⟨S_, .i32⟩
  | 100 => ⟨S4x512x512, .i32⟩
  | 101 => ⟨S4x512x512, .i32⟩
  | 102 => ⟨S4x512x512, .i32⟩
  | 103 => ⟨S_, .i32⟩
  | 104 => ⟨S4x512x512, .i32⟩
  | 105 => ⟨S4x512x512, .i1⟩
  | 106 => ⟨S_, .i32⟩
  | 107 => ⟨S4x512x512, .i32⟩
  | 108 => ⟨S4x512x512, .i32⟩
  | 109 => ⟨S4x512x512, .i32⟩
  | 110 => ⟨S4x512x512x1, .i32⟩
  | 111 => ⟨S4x512x512x1, .i32⟩
  | 112 => ⟨S4x512x512x1, .i32⟩
  | 113 => ⟨S4x512x512x3, .i32⟩
  | 114 => ⟨S4x12x512x512, .f32⟩
  | 115 => ⟨S4x12x512x512, .f32⟩
  | 116 => ⟨S4x12x512x512, .f32⟩
  | 117 => ⟨S4x12x512x512, .f32⟩
  | 118 => ⟨S_, .f32⟩
  | 119 => ⟨S4x512x512, .f32⟩
  | 120 => ⟨S4x512x512, .f32⟩
  | 121 => ⟨S_, .i32⟩
  | 122 => ⟨S_, .i32⟩
  | 123 => ⟨S_, .f32⟩
  | 124 => ⟨S4x512x512, .f32⟩
  | 125 => ⟨S4x512x512, .f32⟩
  | 126 => ⟨S_, .f32⟩
  | 127 => ⟨S4x512x512, .f32⟩
  | _ => ⟨S4x12x8x16x16, .f32⟩

abbrev hbmTy0_3 (i : Nat) : BufTy := match i % 128 with
  | 0 => ⟨S4x512x512, .f32⟩
  | 1 => ⟨S4x512x512, .i32⟩
  | 2 => ⟨S_, .f32⟩
  | 3 => ⟨S4x512x512, .f32⟩
  | 4 => ⟨S4x512x512, .f32⟩
  | 5 => ⟨S_, .i32⟩
  | 6 => ⟨S_, .i32⟩
  | 7 => ⟨S_, .f32⟩
  | 8 => ⟨S4x512x512, .f32⟩
  | 9 => ⟨S4x512x512, .f32⟩
  | 10 => ⟨S_, .f32⟩
  | 11 => ⟨S4x512x512, .f32⟩
  | 12 => ⟨S4x512x512, .f32⟩
  | 13 => ⟨S4x512x512, .i32⟩
  | 14 => ⟨S_, .f32⟩
  | 15 => ⟨S4x512x512, .f32⟩
  | 16 => ⟨S4x512x512, .f32⟩
  | 17 => ⟨S_, .i32⟩
  | 18 => ⟨S_, .i32⟩
  | 19 => ⟨S_, .f32⟩
  | 20 => ⟨S4x512x512, .f32⟩
  | 21 => ⟨S4x512x512, .f32⟩
  | 22 => ⟨S_, .f32⟩
  | 23 => ⟨S4x512x512, .f32⟩
  | 24 => ⟨S4x512x512, .f32⟩
  | 25 => ⟨S4x512x512, .i32⟩
  | 26 => ⟨S_, .f32⟩
  | 27 => ⟨S4x512x512, .f32⟩
  | 28 => ⟨S4x512x512, .f32⟩
  | 29 => ⟨S_, .f32⟩
  | 30 => ⟨S4x512x512, .f32⟩
  | 31 => ⟨S4x512x512, .f32⟩
  | 32 => ⟨S4x512x512, .f32⟩
  | 33 => ⟨S4x512x512, .f32⟩
  | 34 => ⟨S_, .f32⟩
  | 35 => ⟨S4x512x512, .f32⟩
  | 36 => ⟨S4x512x512, .f32⟩
  | 37 => ⟨S_, .f32⟩
  | 38 => ⟨S4x512x512, .f32⟩
  | 39 => ⟨S4x512x512, .f32⟩
  | 40 => ⟨S_, .f32⟩
  | 41 => ⟨S4x512x512, .f32⟩
  | 42 => ⟨S4x512x512, .f32⟩
  | 43 => ⟨S_, .f32⟩
  | 44 => ⟨S4x512x512, .f32⟩
  | 45 => ⟨S4x512x512, .f32⟩
  | 46 => ⟨S4x512x512, .f32⟩
  | 47 => ⟨S4x512x512, .f32⟩
  | 48 => ⟨S_, .f32⟩
  | 49 => ⟨S4x512x512, .f32⟩
  | 50 => ⟨S4x512x512, .f32⟩
  | 51 => ⟨S_, .f32⟩
  | 52 => ⟨S4x512x512, .f32⟩
  | 53 => ⟨S4x512x512, .f32⟩
  | 54 => ⟨S_, .f32⟩
  | 55 => ⟨S4x512x512, .f32⟩
  | 56 => ⟨S4x512x512, .f32⟩
  | 57 => ⟨S_, .f32⟩
  | 58 => ⟨S4x512x512, .f32⟩
  | 59 => ⟨S4x512x512, .f32⟩
  | 60 => ⟨S4x512x512, .f32⟩
  | 61 => ⟨S4x512x512, .f32⟩
  | 62 => ⟨S_, .f32⟩
  | 63 => ⟨S4x512x512, .f32⟩
  | 64 => ⟨S4x512x512, .f32⟩
  | 65 => ⟨S_, .f32⟩
  | 66 => ⟨S4x512x512, .f32⟩
  | 67 => ⟨S4x512x512, .f32⟩
  | 68 => ⟨S4x512x512, .f32⟩
  | 69 => ⟨S4x512x512, .f32⟩
  | 70 => ⟨S4x1x512x512, .f32⟩
  | 71 => ⟨S_, .i32⟩
  | 72 => ⟨S4x512x512, .i32⟩
  | 73 => ⟨S4x512x512, .i1⟩
  | 74 => ⟨S_, .i32⟩
  | 75 => ⟨S4x512x512, .i32⟩
  | 76 => ⟨S4x512x512, .i32⟩
  | 77 => ⟨S4x512x512, .i32⟩
  | 78 => ⟨S_, .i32⟩
  | 79 => ⟨S4x512x512, .i32⟩
  | 80 => ⟨S4x512x512, .i1⟩
  | 81 => ⟨S_, .i32⟩
  | 82 => ⟨S4x512x512, .i32⟩
  | 83 => ⟨S4x512x512, .i32⟩
  | 84 => ⟨S4x512x512, .i32⟩
  | 85 => ⟨S_, .i32⟩
  | 86 => ⟨S4x512x512, .i32⟩
  | 87 => ⟨S4x512x512, .i1⟩
  | 88 => ⟨S_, .i32⟩
  | 89 => ⟨S4x512x512, .i32⟩
  | 90 => ⟨S4x512x512, .i32⟩
  | 91 => ⟨S4x512x512, .i32⟩
  | 92 => ⟨S4x512x512x1, .i32⟩
  | 93 => ⟨S4x512x512x1, .i32⟩
  | 94 => ⟨S4x512x512x1, .i32⟩
  | 95 => ⟨S4x512x512x3, .i32⟩
  | 96 => ⟨S4x12x512x512, .f32⟩
  | 97 => ⟨S4x12x512x512, .f32⟩
  | 98 => ⟨S4x12x512x512, .f32⟩
  | 99 => ⟨S4x12x512x512, .f32⟩
  | 100 => ⟨S_, .f32⟩
  | 101 => ⟨S4x512x512, .f32⟩
  | 102 => ⟨S4x512x512, .f32⟩
  | 103 => ⟨S_, .i32⟩
  | 104 => ⟨S_, .i32⟩
  | 105 => ⟨S_, .f32⟩
  | 106 => ⟨S4x512x512, .f32⟩
  | 107 => ⟨S4x512x512, .f32⟩
  | 108 => ⟨S_, .f32⟩
  | 109 => ⟨S4x512x512, .f32⟩
  | 110 => ⟨S4x512x512, .f32⟩
  | 111 => ⟨S4x512x512, .i32⟩
  | 112 => ⟨S_, .f32⟩
  | 113 => ⟨S4x512x512, .f32⟩
  | 114 => ⟨S4x512x512, .f32⟩
  | 115 => ⟨S_, .i32⟩
  | 116 => ⟨S_, .i32⟩
  | 117 => ⟨S_, .f32⟩
  | 118 => ⟨S4x512x512, .f32⟩
  | 119 => ⟨S4x512x512, .f32⟩
  | 120 => ⟨S_, .f32⟩
  | 121 => ⟨S4x512x512, .f32⟩
  | 122 => ⟨S4x512x512, .f32⟩
  | 123 => ⟨S4x512x512, .i32⟩
  | 124 => ⟨S_, .f32⟩
  | 125 => ⟨S4x512x512, .f32⟩
  | 126 => ⟨S4x512x512, .f32⟩
  | 127 => ⟨S_, .i32⟩
  | _ => ⟨S4x12x8x16x16, .f32⟩

abbrev hbmTy0_4 (i : Nat) : BufTy := match i % 128 with
  | 0 => ⟨S_, .i32⟩
  | 1 => ⟨S_, .f32⟩
  | 2 => ⟨S4x512x512, .f32⟩
  | 3 => ⟨S4x512x512, .f32⟩
  | 4 => ⟨S_, .f32⟩
  | 5 => ⟨S4x512x512, .f32⟩
  | 6 => ⟨S4x512x512, .f32⟩
  | 7 => ⟨S4x512x512, .i32⟩
  | 8 => ⟨S_, .f32⟩
  | 9 => ⟨S4x512x512, .f32⟩
  | 10 => ⟨S4x512x512, .f32⟩
  | 11 => ⟨S_, .f32⟩
  | 12 => ⟨S4x512x512, .f32⟩
  | 13 => ⟨S4x512x512, .f32⟩
  | 14 => ⟨S4x512x512, .f32⟩
  | 15 => ⟨S4x512x512, .f32⟩
  | 16 => ⟨S_, .f32⟩
  | 17 => ⟨S4x512x512, .f32⟩
  | 18 => ⟨S4x512x512, .f32⟩
  | 19 => ⟨S_, .f32⟩
  | 20 => ⟨S4x512x512, .f32⟩
  | 21 => ⟨S4x512x512, .f32⟩
  | 22 => ⟨S_, .f32⟩
  | 23 => ⟨S4x512x512, .f32⟩
  | 24 => ⟨S4x512x512, .f32⟩
  | 25 => ⟨S_, .f32⟩
  | 26 => ⟨S4x512x512, .f32⟩
  | 27 => ⟨S4x512x512, .f32⟩
  | 28 => ⟨S4x512x512, .f32⟩
  | 29 => ⟨S4x512x512, .f32⟩
  | 30 => ⟨S_, .f32⟩
  | 31 => ⟨S4x512x512, .f32⟩
  | 32 => ⟨S4x512x512, .f32⟩
  | 33 => ⟨S_, .f32⟩
  | 34 => ⟨S4x512x512, .f32⟩
  | 35 => ⟨S4x512x512, .f32⟩
  | 36 => ⟨S_, .f32⟩
  | 37 => ⟨S4x512x512, .f32⟩
  | 38 => ⟨S4x512x512, .f32⟩
  | 39 => ⟨S_, .f32⟩
  | 40 => ⟨S4x512x512, .f32⟩
  | 41 => ⟨S4x512x512, .f32⟩
  | 42 => ⟨S4x512x512, .f32⟩
  | 43 => ⟨S4x512x512, .f32⟩
  | 44 => ⟨S_, .f32⟩
  | 45 => ⟨S4x512x512, .f32⟩
  | 46 => ⟨S4x512x512, .f32⟩
  | 47 => ⟨S_, .f32⟩
  | 48 => ⟨S4x512x512, .f32⟩
  | 49 => ⟨S4x512x512, .f32⟩
  | 50 => ⟨S4x512x512, .f32⟩
  | 51 => ⟨S4x512x512, .f32⟩
  | 52 => ⟨S4x1x512x512, .f32⟩
  | 53 => ⟨S_, .i32⟩
  | 54 => ⟨S4x512x512, .i32⟩
  | 55 => ⟨S4x512x512, .i1⟩
  | 56 => ⟨S_, .i32⟩
  | 57 => ⟨S4x512x512, .i32⟩
  | 58 => ⟨S4x512x512, .i32⟩
  | 59 => ⟨S4x512x512, .i32⟩
  | 60 => ⟨S_, .i32⟩
  | 61 => ⟨S4x512x512, .i32⟩
  | 62 => ⟨S4x512x512, .i1⟩
  | 63 => ⟨S_, .i32⟩
  | 64 => ⟨S4x512x512, .i32⟩
  | 65 => ⟨S4x512x512, .i32⟩
  | 66 => ⟨S4x512x512, .i32⟩
  | 67 => ⟨S_, .i32⟩
  | 68 => ⟨S4x512x512, .i32⟩
  | 69 => ⟨S4x512x512, .i1⟩
  | 70 => ⟨S_, .i32⟩
  | 71 => ⟨S4x512x512, .i32⟩
  | 72 => ⟨S4x512x512, .i32⟩
  | 73 => ⟨S4x512x512, .i32⟩
  | 74 => ⟨S4x512x512x1, .i32⟩
  | 75 => ⟨S4x512x512x1, .i32⟩
  | 76 => ⟨S4x512x512x1, .i32⟩
  | 77 => ⟨S4x512x512x3, .i32⟩
  | 78 => ⟨S4x12x512x512, .f32⟩
  | 79 => ⟨S4x12x512x512, .f32⟩
  | 80 => ⟨S4x12x512x512, .f32⟩
  | 81 => ⟨S4x12x512x512, .f32⟩
  | 82 => ⟨S_, .f32⟩
  | 83 => ⟨S4x512x512, .f32⟩
  | 84 => ⟨S4x512x512, .f32⟩
  | 85 => ⟨S_, .i32⟩
  | 86 => ⟨S_, .i32⟩
  | 87 => ⟨S_, .f32⟩
  | 88 => ⟨S4x512x512, .f32⟩
  | 89 => ⟨S4x512x512, .f32⟩
  | 90 => ⟨S_, .f32⟩
  | 91 => ⟨S4x512x512, .f32⟩
  | 92 => ⟨S4x512x512, .f32⟩
  | 93 => ⟨S4x512x512, .i32⟩
  | 94 => ⟨S_, .f32⟩
  | 95 => ⟨S4x512x512, .f32⟩
  | 96 => ⟨S4x512x512, .f32⟩
  | 97 => ⟨S_, .i32⟩
  | 98 => ⟨S_, .i32⟩
  | 99 => ⟨S_, .f32⟩
  | 100 => ⟨S4x512x512, .f32⟩
  | 101 => ⟨S4x512x512, .f32⟩
  | 102 => ⟨S_, .f32⟩
  | 103 => ⟨S4x512x512, .f32⟩
  | 104 => ⟨S4x512x512, .f32⟩
  | 105 => ⟨S4x512x512, .i32⟩
  | 106 => ⟨S_, .f32⟩
  | 107 => ⟨S4x512x512, .f32⟩
  | 108 => ⟨S4x512x512, .f32⟩
  | 109 => ⟨S_, .i32⟩
  | 110 => ⟨S_, .i32⟩
  | 111 => ⟨S_, .f32⟩
  | 112 => ⟨S4x512x512, .f32⟩
  | 113 => ⟨S4x512x512, .f32⟩
  | 114 => ⟨S_, .f32⟩
  | 115 => ⟨S4x512x512, .f32⟩
  | 116 => ⟨S4x512x512, .f32⟩
  | 117 => ⟨S4x512x512, .i32⟩
  | 118 => ⟨S_, .f32⟩
  | 119 => ⟨S4x512x512, .f32⟩
  | 120 => ⟨S4x512x512, .f32⟩
  | 121 => ⟨S_, .f32⟩
  | 122 => ⟨S4x512x512, .f32⟩
  | 123 => ⟨S4x512x512, .f32⟩
  | 124 => ⟨S4x512x512, .f32⟩
  | 125 => ⟨S4x512x512, .f32⟩
  | 126 => ⟨S_, .f32⟩
  | 127 => ⟨S4x512x512, .f32⟩
  | _ => ⟨S4x12x8x16x16, .f32⟩

abbrev hbmTy0_5 (i : Nat) : BufTy := match i % 128 with
  | 0 => ⟨S4x512x512, .f32⟩
  | 1 => ⟨S_, .f32⟩
  | 2 => ⟨S4x512x512, .f32⟩
  | 3 => ⟨S4x512x512, .f32⟩
  | 4 => ⟨S_, .f32⟩
  | 5 => ⟨S4x512x512, .f32⟩
  | 6 => ⟨S4x512x512, .f32⟩
  | 7 => ⟨S_, .f32⟩
  | 8 => ⟨S4x512x512, .f32⟩
  | 9 => ⟨S4x512x512, .f32⟩
  | 10 => ⟨S4x512x512, .f32⟩
  | 11 => ⟨S4x512x512, .f32⟩
  | 12 => ⟨S_, .f32⟩
  | 13 => ⟨S4x512x512, .f32⟩
  | 14 => ⟨S4x512x512, .f32⟩
  | 15 => ⟨S_, .f32⟩
  | 16 => ⟨S4x512x512, .f32⟩
  | 17 => ⟨S4x512x512, .f32⟩
  | 18 => ⟨S_, .f32⟩
  | 19 => ⟨S4x512x512, .f32⟩
  | 20 => ⟨S4x512x512, .f32⟩
  | 21 => ⟨S_, .f32⟩
  | 22 => ⟨S4x512x512, .f32⟩
  | 23 => ⟨S4x512x512, .f32⟩
  | 24 => ⟨S4x512x512, .f32⟩
  | 25 => ⟨S4x512x512, .f32⟩
  | 26 => ⟨S_, .f32⟩
  | 27 => ⟨S4x512x512, .f32⟩
  | 28 => ⟨S4x512x512, .f32⟩
  | 29 => ⟨S_, .f32⟩
  | 30 => ⟨S4x512x512, .f32⟩
  | 31 => ⟨S4x512x512, .f32⟩
  | 32 => ⟨S4x512x512, .f32⟩
  | 33 => ⟨S4x512x512, .f32⟩
  | 34 => ⟨S4x1x512x512, .f32⟩
  | 35 => ⟨S_, .i32⟩
  | 36 => ⟨S4x512x512, .i32⟩
  | 37 => ⟨S4x512x512, .i1⟩
  | 38 => ⟨S_, .i32⟩
  | 39 => ⟨S4x512x512, .i32⟩
  | 40 => ⟨S4x512x512, .i32⟩
  | 41 => ⟨S4x512x512, .i32⟩
  | 42 => ⟨S_, .i32⟩
  | 43 => ⟨S4x512x512, .i32⟩
  | 44 => ⟨S4x512x512, .i1⟩
  | 45 => ⟨S_, .i32⟩
  | 46 => ⟨S4x512x512, .i32⟩
  | 47 => ⟨S4x512x512, .i32⟩
  | 48 => ⟨S4x512x512, .i32⟩
  | 49 => ⟨S_, .i32⟩
  | 50 => ⟨S4x512x512, .i32⟩
  | 51 => ⟨S4x512x512, .i1⟩
  | 52 => ⟨S_, .i32⟩
  | 53 => ⟨S4x512x512, .i32⟩
  | 54 => ⟨S4x512x512, .i32⟩
  | 55 => ⟨S4x512x512, .i32⟩
  | 56 => ⟨S4x512x512x1, .i32⟩
  | 57 => ⟨S4x512x512x1, .i32⟩
  | 58 => ⟨S4x512x512x1, .i32⟩
  | 59 => ⟨S4x512x512x3, .i32⟩
  | 60 => ⟨S4x12x512x512, .f32⟩
  | 61 => ⟨S4x12x512x512, .f32⟩
  | 62 => ⟨S4x12x512x512, .f32⟩
  | 63 => ⟨S4x12x512x512, .f32⟩
  | 64 => ⟨S_, .f32⟩
  | 65 => ⟨S4x512x512, .f32⟩
  | 66 => ⟨S4x512x512, .f32⟩
  | 67 => ⟨S_, .i32⟩
  | 68 => ⟨S_, .i32⟩
  | 69 => ⟨S_, .f32⟩
  | 70 => ⟨S4x512x512, .f32⟩
  | 71 => ⟨S4x512x512, .f32⟩
  | 72 => ⟨S_, .f32⟩
  | 73 => ⟨S4x512x512, .f32⟩
  | 74 => ⟨S4x512x512, .f32⟩
  | 75 => ⟨S4x512x512, .i32⟩
  | 76 => ⟨S_, .f32⟩
  | 77 => ⟨S4x512x512, .f32⟩
  | 78 => ⟨S4x512x512, .f32⟩
  | 79 => ⟨S_, .i32⟩
  | 80 => ⟨S_, .i32⟩
  | 81 => ⟨S_, .f32⟩
  | 82 => ⟨S4x512x512, .f32⟩
  | 83 => ⟨S4x512x512, .f32⟩
  | 84 => ⟨S_, .f32⟩
  | 85 => ⟨S4x512x512, .f32⟩
  | 86 => ⟨S4x512x512, .f32⟩
  | 87 => ⟨S4x512x512, .i32⟩
  | 88 => ⟨S_, .f32⟩
  | 89 => ⟨S4x512x512, .f32⟩
  | 90 => ⟨S4x512x512, .f32⟩
  | 91 => ⟨S_, .i32⟩
  | 92 => ⟨S_, .i32⟩
  | 93 => ⟨S_, .f32⟩
  | 94 => ⟨S4x512x512, .f32⟩
  | 95 => ⟨S4x512x512, .f32⟩
  | 96 => ⟨S_, .f32⟩
  | 97 => ⟨S4x512x512, .f32⟩
  | 98 => ⟨S4x512x512, .f32⟩
  | 99 => ⟨S4x512x512, .i32⟩
  | 100 => ⟨S_, .f32⟩
  | 101 => ⟨S4x512x512, .f32⟩
  | 102 => ⟨S4x512x512, .f32⟩
  | 103 => ⟨S_, .f32⟩
  | 104 => ⟨S4x512x512, .f32⟩
  | 105 => ⟨S4x512x512, .f32⟩
  | 106 => ⟨S4x512x512, .f32⟩
  | 107 => ⟨S4x512x512, .f32⟩
  | 108 => ⟨S_, .f32⟩
  | 109 => ⟨S4x512x512, .f32⟩
  | 110 => ⟨S4x512x512, .f32⟩
  | 111 => ⟨S_, .f32⟩
  | 112 => ⟨S4x512x512, .f32⟩
  | 113 => ⟨S4x512x512, .f32⟩
  | 114 => ⟨S_, .f32⟩
  | 115 => ⟨S4x512x512, .f32⟩
  | 116 => ⟨S4x512x512, .f32⟩
  | 117 => ⟨S_, .f32⟩
  | 118 => ⟨S4x512x512, .f32⟩
  | 119 => ⟨S4x512x512, .f32⟩
  | 120 => ⟨S4x512x512, .f32⟩
  | 121 => ⟨S4x512x512, .f32⟩
  | 122 => ⟨S_, .f32⟩
  | 123 => ⟨S4x512x512, .f32⟩
  | 124 => ⟨S4x512x512, .f32⟩
  | 125 => ⟨S_, .f32⟩
  | 126 => ⟨S4x512x512, .f32⟩
  | 127 => ⟨S4x512x512, .f32⟩
  | _ => ⟨S4x12x8x16x16, .f32⟩

abbrev hbmTy0_6 (i : Nat) : BufTy := match i % 128 with
  | 0 => ⟨S_, .f32⟩
  | 1 => ⟨S4x512x512, .f32⟩
  | 2 => ⟨S4x512x512, .f32⟩
  | 3 => ⟨S_, .f32⟩
  | 4 => ⟨S4x512x512, .f32⟩
  | 5 => ⟨S4x512x512, .f32⟩
  | 6 => ⟨S4x512x512, .f32⟩
  | 7 => ⟨S4x512x512, .f32⟩
  | 8 => ⟨S_, .f32⟩
  | 9 => ⟨S4x512x512, .f32⟩
  | 10 => ⟨S4x512x512, .f32⟩
  | 11 => ⟨S_, .f32⟩
  | 12 => ⟨S4x512x512, .f32⟩
  | 13 => ⟨S4x512x512, .f32⟩
  | 14 => ⟨S4x512x512, .f32⟩
  | 15 => ⟨S4x512x512, .f32⟩
  | 16 => ⟨S4x1x512x512, .f32⟩
  | 17 => ⟨S_, .i32⟩
  | 18 => ⟨S4x512x512, .i32⟩
  | 19 => ⟨S4x512x512, .i1⟩
  | 20 => ⟨S_, .i32⟩
  | 21 => ⟨S4x512x512, .i32⟩
  | 22 => ⟨S4x512x512, .i32⟩
  | 23 => ⟨S4x512x512, .i32⟩
  | 24 => ⟨S_, .i32⟩
  | 25 => ⟨S4x512x512, .i32⟩
  | 26 => ⟨S4x512x512, .i1⟩
  | 27 => ⟨S_, .i32⟩
  | 28 => ⟨S4x512x512, .i32⟩
  | 29 => ⟨S4x512x512, .i32⟩
  | 30 => ⟨S4x512x512, .i32⟩
  | 31 => ⟨S_, .i32⟩
  | 32 => ⟨S4x512x512, .i32⟩
  | 33 => ⟨S4x512x512, .i1⟩
  | 34 => ⟨S_, .i32⟩
  | 35 => ⟨S4x512x512, .i32⟩
  | 36 => ⟨S4x512x512, .i32⟩
  | 37 => ⟨S4x512x512, .i32⟩
  | 38 => ⟨S4x512x512x1, .i32⟩
  | 39 => ⟨S4x512x512x1, .i32⟩
  | 40 => ⟨S4x512x512x1, .i32⟩
  | 41 => ⟨S4x512x512x3, .i32⟩
  | 42 => ⟨S4x12x512x512, .f32⟩
  | 43 => ⟨S4x12x512x512, .f32⟩
  | 44 => ⟨S4x12x512x512, .f32⟩
  | 45 => ⟨S4x12x512x512, .f32⟩
  | 46 => ⟨S_, .f32⟩
  | 47 => ⟨S4x512x512, .f32⟩
  | 48 => ⟨S4x512x512, .f32⟩
  | 49 => ⟨S_, .i32⟩
  | 50 => ⟨S_, .i32⟩
  | 51 => ⟨S_, .f32⟩
  | 52 => ⟨S4x512x512, .f32⟩
  | 53 => ⟨S4x512x512, .f32⟩
  | 54 => ⟨S_, .f32⟩
  | 55 => ⟨S4x512x512, .f32⟩
  | 56 => ⟨S4x512x512, .f32⟩
  | 57 => ⟨S4x512x512, .i32⟩
  | 58 => ⟨S_, .f32⟩
  | 59 => ⟨S4x512x512, .f32⟩
  | 60 => ⟨S4x512x512, .f32⟩
  | 61 => ⟨S_, .i32⟩
  | 62 => ⟨S_, .i32⟩
  | 63 => ⟨S_, .f32⟩
  | 64 => ⟨S4x512x512, .f32⟩
  | 65 => ⟨S4x512x512, .f32⟩
  | 66 => ⟨S_, .f32⟩
  | 67 => ⟨S4x512x512, .f32⟩
  | 68 => ⟨S4x512x512, .f32⟩
  | 69 => ⟨S4x512x512, .i32⟩
  | 70 => ⟨S_, .f32⟩
  | 71 => ⟨S4x512x512, .f32⟩
  | 72 => ⟨S4x512x512, .f32⟩
  | 73 => ⟨S_, .i32⟩
  | 74 => ⟨S_, .i32⟩
  | 75 => ⟨S_, .f32⟩
  | 76 => ⟨S4x512x512, .f32⟩
  | 77 => ⟨S4x512x512, .f32⟩
  | 78 => ⟨S_, .f32⟩
  | 79 => ⟨S4x512x512, .f32⟩
  | 80 => ⟨S4x512x512, .f32⟩
  | 81 => ⟨S4x512x512, .i32⟩
  | 82 => ⟨S_, .f32⟩
  | 83 => ⟨S4x512x512, .f32⟩
  | 84 => ⟨S4x512x512, .f32⟩
  | 85 => ⟨S_, .f32⟩
  | 86 => ⟨S4x512x512, .f32⟩
  | 87 => ⟨S4x512x512, .f32⟩
  | 88 => ⟨S4x512x512, .f32⟩
  | 89 => ⟨S4x512x512, .f32⟩
  | 90 => ⟨S_, .f32⟩
  | 91 => ⟨S4x512x512, .f32⟩
  | 92 => ⟨S4x512x512, .f32⟩
  | 93 => ⟨S_, .f32⟩
  | 94 => ⟨S4x512x512, .f32⟩
  | 95 => ⟨S4x512x512, .f32⟩
  | 96 => ⟨S_, .f32⟩
  | 97 => ⟨S4x512x512, .f32⟩
  | 98 => ⟨S4x512x512, .f32⟩
  | 99 => ⟨S_, .f32⟩
  | 100 => ⟨S4x512x512, .f32⟩
  | 101 => ⟨S4x512x512, .f32⟩
  | 102 => ⟨S4x512x512, .f32⟩
  | 103 => ⟨S4x512x512, .f32⟩
  | 104 => ⟨S_, .f32⟩
  | 105 => ⟨S4x512x512, .f32⟩
  | 106 => ⟨S4x512x512, .f32⟩
  | 107 => ⟨S_, .f32⟩
  | 108 => ⟨S4x512x512, .f32⟩
  | 109 => ⟨S4x512x512, .f32⟩
  | 110 => ⟨S_, .f32⟩
  | 111 => ⟨S4x512x512, .f32⟩
  | 112 => ⟨S4x512x512, .f32⟩
  | 113 => ⟨S_, .f32⟩
  | 114 => ⟨S4x512x512, .f32⟩
  | 115 => ⟨S4x512x512, .f32⟩
  | 116 => ⟨S4x512x512, .f32⟩
  | 117 => ⟨S4x512x512, .f32⟩
  | 118 => ⟨S_, .f32⟩
  | 119 => ⟨S4x512x512, .f32⟩
  | 120 => ⟨S4x512x512, .f32⟩
  | 121 => ⟨S_, .f32⟩
  | 122 => ⟨S4x512x512, .f32⟩
  | 123 => ⟨S4x512x512, .f32⟩
  | 124 => ⟨S4x512x512, .f32⟩
  | 125 => ⟨S4x512x512, .f32⟩
  | 126 => ⟨S4x1x512x512, .f32⟩
  | 127 => ⟨S_, .i32⟩
  | _ => ⟨S4x12x8x16x16, .f32⟩

abbrev hbmTy0_7 (i : Nat) : BufTy := match i % 128 with
  | 0 => ⟨S4x512x512, .i32⟩
  | 1 => ⟨S4x512x512, .i1⟩
  | 2 => ⟨S_, .i32⟩
  | 3 => ⟨S4x512x512, .i32⟩
  | 4 => ⟨S4x512x512, .i32⟩
  | 5 => ⟨S4x512x512, .i32⟩
  | 6 => ⟨S_, .i32⟩
  | 7 => ⟨S4x512x512, .i32⟩
  | 8 => ⟨S4x512x512, .i1⟩
  | 9 => ⟨S_, .i32⟩
  | 10 => ⟨S4x512x512, .i32⟩
  | 11 => ⟨S4x512x512, .i32⟩
  | 12 => ⟨S4x512x512, .i32⟩
  | 13 => ⟨S_, .i32⟩
  | 14 => ⟨S4x512x512, .i32⟩
  | 15 => ⟨S4x512x512, .i1⟩
  | 16 => ⟨S_, .i32⟩
  | 17 => ⟨S4x512x512, .i32⟩
  | 18 => ⟨S4x512x512, .i32⟩
  | 19 => ⟨S4x512x512, .i32⟩
  | 20 => ⟨S4x512x512x1, .i32⟩
  | 21 => ⟨S4x512x512x1, .i32⟩
  | 22 => ⟨S4x512x512x1, .i32⟩
  | 23 => ⟨S4x512x512x3, .i32⟩
  | 24 => ⟨S4x12x512x512, .f32⟩
  | 25 => ⟨S4x12x512x512, .f32⟩
  | 26 => ⟨S4x12x512x512, .f32⟩
  | 27 => ⟨S4x12x512x512, .f32⟩
  | 28 => ⟨S4x3x4x512x512, .f32⟩
  | 29 => ⟨S4x3x3x512x512, .f32⟩
  | 30 => ⟨S4x512x512x3, .f32⟩
  | 31 => ⟨S4x3x512x512, .f32⟩
  | 32 => ⟨S4x3x1x512x512, .f32⟩
  | 33 => ⟨S4x3x512x512, .f32⟩
  | 34 => ⟨S4x3x512x512, .f32⟩
  | _ => ⟨S4x12x8x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x12x8x16x16, .f32⟩

abbrev bufTy : (tb : Table) → Fin (tcTables nBuf tb) → BufTy
  | .hbm, ⟨i, _⟩ => hbmTy i
  | _, _ => ⟨S4x12x8x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_c_11 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_c_13 : Ref sig .tc := ⟨.hbm, 59, rfl⟩
abbrev main_c_14 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v36 : Ref sig .tc := ⟨.hbm, 66, rfl⟩
abbrev main_v37 : Ref sig .tc := ⟨.hbm, 67, rfl⟩
abbrev main_cst_15 : Ref sig .tc := ⟨.hbm, 68, rfl⟩
abbrev main_v38 : Ref sig .tc := ⟨.hbm, 69, rfl⟩
abbrev main_v39 : Ref sig .tc := ⟨.hbm, 70, rfl⟩
abbrev main_c_16 : Ref sig .tc := ⟨.hbm, 71, rfl⟩
abbrev main_c_17 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v40 : Ref sig .tc := ⟨.hbm, 78, rfl⟩
abbrev main_v41 : Ref sig .tc := ⟨.hbm, 79, rfl⟩
abbrev main_cst_18 : Ref sig .tc := ⟨.hbm, 80, rfl⟩
abbrev main_v42 : Ref sig .tc := ⟨.hbm, 81, rfl⟩
abbrev main_v43 : Ref sig .tc := ⟨.hbm, 82, rfl⟩
abbrev main_cst_19 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_20 : Ref sig .tc := ⟨.hbm, 88, rfl⟩
abbrev main_v48 : Ref sig .tc := ⟨.hbm, 89, rfl⟩
abbrev main_v49 : Ref sig .tc := ⟨.hbm, 90, rfl⟩
abbrev main_cst_21 : Ref sig .tc := ⟨.hbm, 91, rfl⟩
abbrev main_v50 : Ref sig .tc := ⟨.hbm, 92, rfl⟩
abbrev main_v51 : Ref sig .tc := ⟨.hbm, 93, rfl⟩
abbrev main_cst_22 : Ref sig .tc := ⟨.hbm, 94, rfl⟩
abbrev main_v52 : Ref sig .tc := ⟨.hbm, 95, rfl⟩
abbrev main_v53 : Ref sig .tc := ⟨.hbm, 96, rfl⟩
abbrev main_cst_23 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_24 : Ref sig .tc := ⟨.hbm, 102, rfl⟩
abbrev main_v58 : Ref sig .tc := ⟨.hbm, 103, rfl⟩
abbrev main_v59 : Ref sig .tc := ⟨.hbm, 104, rfl⟩
abbrev main_cst_25 : Ref sig .tc := ⟨.hbm, 105, rfl⟩
abbrev main_v60 : Ref sig .tc := ⟨.hbm, 106, rfl⟩
abbrev main_v61 : Ref sig .tc := ⟨.hbm, 107, rfl⟩
abbrev main_cst_26 : Ref sig .tc := ⟨.hbm, 108, rfl⟩
abbrev main_v62 : Ref sig .tc := ⟨.hbm, 109, rfl⟩
abbrev main_v63 : Ref sig .tc := ⟨.hbm, 110, rfl⟩
abbrev main_cst_27 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_28 : Ref sig .tc := ⟨.hbm, 116, rfl⟩
abbrev main_v68 : Ref sig .tc := ⟨.hbm, 117, rfl⟩
abbrev main_v69 : Ref sig .tc := ⟨.hbm, 118, rfl⟩
abbrev main_cst_29 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_30 : Ref sig .tc := ⟨.hbm, 125, rfl⟩
abbrev main_v75 : Ref sig .tc := ⟨.hbm, 126, rfl⟩
abbrev main_v76 : Ref sig .tc := ⟨.hbm, 127, rfl⟩
abbrev main_c_31 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_c_32 : Ref sig .tc := ⟨.hbm, 132, rfl⟩
abbrev main_v80 : Ref sig .tc := ⟨.hbm, 133, rfl⟩
abbrev main_v81 : Ref sig .tc := ⟨.hbm, 134, rfl⟩
abbrev main_c_33 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_c_34 : Ref sig .tc := ⟨.hbm, 139, rfl⟩
abbrev main_v85 : Ref sig .tc := ⟨.hbm, 140, rfl⟩
abbrev main_v86 : Ref sig .tc := ⟨.hbm, 141, rfl⟩
abbrev main_c_35 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_cst_36 : Ref sig .tc := ⟨.hbm, 154, rfl⟩
abbrev main_v98 : Ref sig .tc := ⟨.hbm, 155, rfl⟩
abbrev main_v99 : Ref sig .tc := ⟨.hbm, 156, rfl⟩
abbrev main_c_37 : Ref sig .tc := ⟨.hbm, 157, rfl⟩
abbrev main_c_38 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v100 : Ref sig .tc := ⟨.hbm, 164, rfl⟩
abbrev main_v101 : Ref sig .tc := ⟨.hbm, 165, rfl⟩
abbrev main_cst_39 : Ref sig .tc := ⟨.hbm, 166, rfl⟩
abbrev main_v102 : Ref sig .tc := ⟨.hbm, 167, rfl⟩
abbrev main_v103 : Ref sig .tc := ⟨.hbm, 168, rfl⟩
abbrev main_c_40 : Ref sig .tc := ⟨.hbm, 169, rfl⟩
abbrev main_c_41 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v104 : Ref sig .tc := ⟨.hbm, 176, rfl⟩
abbrev main_v105 : Ref sig .tc := ⟨.hbm, 177, rfl⟩
abbrev main_cst_42 : Ref sig .tc := ⟨.hbm, 178, rfl⟩
abbrev main_v106 : Ref sig .tc := ⟨.hbm, 179, rfl⟩
abbrev main_v107 : Ref sig .tc := ⟨.hbm, 180, rfl⟩
abbrev main_c_43 : Ref sig .tc := ⟨.hbm, 181, rfl⟩
abbrev main_c_44 : Ref sig .tc := ⟨.hbm, 182, rfl⟩
abbrev main_call5_v0 : Ref sig .tc := ⟨.hbm, 183, rfl⟩
abbrev main_call5_v1 : Ref sig .tc := ⟨.hbm, 184, rfl⟩
abbrev main_call5_v2 : Ref sig .tc := ⟨.hbm, 185, rfl⟩
abbrev main_call5_v3 : Ref sig .tc := ⟨.hbm, 186, rfl⟩
abbrev main_call5_v4 : Ref sig .tc := ⟨.hbm, 187, rfl⟩
abbrev main_v108 : Ref sig .tc := ⟨.hbm, 188, rfl⟩
abbrev main_v109 : Ref sig .tc := ⟨.hbm, 189, rfl⟩
abbrev main_cst_45 : Ref sig .tc := ⟨.hbm, 190, rfl⟩
abbrev main_v110 : Ref sig .tc := ⟨.hbm, 191, rfl⟩
abbrev main_v111 : Ref sig .tc := ⟨.hbm, 192, rfl⟩
abbrev main_cst_46 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_cst_47 : Ref sig .tc := ⟨.hbm, 198, rfl⟩
abbrev main_v116 : Ref sig .tc := ⟨.hbm, 199, rfl⟩
abbrev main_v117 : Ref sig .tc := ⟨.hbm, 200, rfl⟩
abbrev main_cst_48 : Ref sig .tc := ⟨.hbm, 201, rfl⟩
abbrev main_v118 : Ref sig .tc := ⟨.hbm, 202, rfl⟩
abbrev main_v119 : Ref sig .tc := ⟨.hbm, 203, rfl⟩
abbrev main_cst_49 : Ref sig .tc := ⟨.hbm, 204, rfl⟩
abbrev main_v120 : Ref sig .tc := ⟨.hbm, 205, rfl⟩
abbrev main_v121 : Ref sig .tc := ⟨.hbm, 206, rfl⟩
abbrev main_cst_50 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_cst_51 : Ref sig .tc := ⟨.hbm, 212, rfl⟩
abbrev main_v126 : Ref sig .tc := ⟨.hbm, 213, rfl⟩
abbrev main_v127 : Ref sig .tc := ⟨.hbm, 214, rfl⟩
abbrev main_cst_52 : Ref sig .tc := ⟨.hbm, 215, rfl⟩
abbrev main_v128 : Ref sig .tc := ⟨.hbm, 216, rfl⟩
abbrev main_v129 : Ref sig .tc := ⟨.hbm, 217, rfl⟩
abbrev main_cst_53 : Ref sig .tc := ⟨.hbm, 218, rfl⟩
abbrev main_v130 : Ref sig .tc := ⟨.hbm, 219, rfl⟩
abbrev main_v131 : Ref sig .tc := ⟨.hbm, 220, rfl⟩
abbrev main_cst_54 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_cst_55 : Ref sig .tc := ⟨.hbm, 226, rfl⟩
abbrev main_v136 : Ref sig .tc := ⟨.hbm, 227, rfl⟩
abbrev main_v137 : Ref sig .tc := ⟨.hbm, 228, rfl⟩
abbrev main_cst_56 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_c_57 : Ref sig .tc := ⟨.hbm, 235, rfl⟩
abbrev main_v143 : Ref sig .tc := ⟨.hbm, 236, rfl⟩
abbrev main_v144 : Ref sig .tc := ⟨.hbm, 237, rfl⟩
abbrev main_c_58 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_c_59 : Ref sig .tc := ⟨.hbm, 242, rfl⟩
abbrev main_v148 : Ref sig .tc := ⟨.hbm, 243, rfl⟩
abbrev main_v149 : Ref sig .tc := ⟨.hbm, 244, rfl⟩
abbrev main_c_60 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_c_61 : Ref sig .tc := ⟨.hbm, 249, rfl⟩
abbrev main_v153 : Ref sig .tc := ⟨.hbm, 250, rfl⟩
abbrev main_v154 : Ref sig .tc := ⟨.hbm, 251, rfl⟩
abbrev main_c_62 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_63 : Ref sig .tc := ⟨.hbm, 264, rfl⟩
abbrev main_v166 : Ref sig .tc := ⟨.hbm, 265, rfl⟩
abbrev main_v167 : Ref sig .tc := ⟨.hbm, 266, rfl⟩
abbrev main_c_64 : Ref sig .tc := ⟨.hbm, 267, rfl⟩
abbrev main_c_65 : Ref sig .tc := ⟨.hbm, 268, rfl⟩
abbrev main_call6_v0 : Ref sig .tc := ⟨.hbm, 269, rfl⟩
abbrev main_call6_v1 : Ref sig .tc := ⟨.hbm, 270, rfl⟩
abbrev main_call6_v2 : Ref sig .tc := ⟨.hbm, 271, rfl⟩
abbrev main_call6_v3 : Ref sig .tc := ⟨.hbm, 272, rfl⟩
abbrev main_call6_v4 : Ref sig .tc := ⟨.hbm, 273, rfl⟩
abbrev main_v168 : Ref sig .tc := ⟨.hbm, 274, rfl⟩
abbrev main_v169 : Ref sig .tc := ⟨.hbm, 275, rfl⟩
abbrev main_cst_66 : Ref sig .tc := ⟨.hbm, 276, rfl⟩
abbrev main_v170 : Ref sig .tc := ⟨.hbm, 277, rfl⟩
abbrev main_v171 : Ref sig .tc := ⟨.hbm, 278, rfl⟩
abbrev main_c_67 : Ref sig .tc := ⟨.hbm, 279, rfl⟩
abbrev main_c_68 : Ref sig .tc := ⟨.hbm, 280, rfl⟩
abbrev main_call7_v0 : Ref sig .tc := ⟨.hbm, 281, rfl⟩
abbrev main_call7_v1 : Ref sig .tc := ⟨.hbm, 282, rfl⟩
abbrev main_call7_v2 : Ref sig .tc := ⟨.hbm, 283, rfl⟩
abbrev main_call7_v3 : Ref sig .tc := ⟨.hbm, 284, rfl⟩
abbrev main_call7_v4 : Ref sig .tc := ⟨.hbm, 285, rfl⟩
abbrev main_v172 : Ref sig .tc := ⟨.hbm, 286, rfl⟩
abbrev main_v173 : Ref sig .tc := ⟨.hbm, 287, rfl⟩
abbrev main_cst_69 : Ref sig .tc := ⟨.hbm, 288, rfl⟩
abbrev main_v174 : Ref sig .tc := ⟨.hbm, 289, rfl⟩
abbrev main_v175 : Ref sig .tc := ⟨.hbm, 290, rfl⟩
abbrev main_c_70 : Ref sig .tc := ⟨.hbm, 291, rfl⟩
abbrev main_c_71 : Ref sig .tc := ⟨.hbm, 292, rfl⟩
abbrev main_call8_v0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_v176 : Ref sig .tc := ⟨.hbm, 298, rfl⟩
abbrev main_v177 : Ref sig .tc := ⟨.hbm, 299, rfl⟩
abbrev main_cst_72 : Ref sig .tc := ⟨.hbm, 300, rfl⟩
abbrev main_v178 : Ref sig .tc := ⟨.hbm, 301, rfl⟩
abbrev main_v179 : Ref sig .tc := ⟨.hbm, 302, rfl⟩
abbrev main_cst_73 : Ref sig .tc := ⟨.hbm, 303, rfl⟩
abbrev main_v180 : Ref sig .tc := ⟨.hbm, 304, rfl⟩
abbrev main_v181 : Ref sig .tc := ⟨.hbm, 305, rfl⟩
abbrev main_v182 : Ref sig .tc := ⟨.hbm, 306, rfl⟩
abbrev main_v183 : Ref sig .tc := ⟨.hbm, 307, rfl⟩
abbrev main_cst_74 : Ref sig .tc := ⟨.hbm, 308, rfl⟩
abbrev main_v184 : Ref sig .tc := ⟨.hbm, 309, rfl⟩
abbrev main_v185 : Ref sig .tc := ⟨.hbm, 310, rfl⟩
abbrev main_cst_75 : Ref sig .tc := ⟨.hbm, 311, rfl⟩
abbrev main_v186 : Ref sig .tc := ⟨.hbm, 312, rfl⟩
abbrev main_v187 : Ref sig .tc := ⟨.hbm, 313, rfl⟩
abbrev main_cst_76 : Ref sig .tc := ⟨.hbm, 314, rfl⟩
abbrev main_v188 : Ref sig .tc := ⟨.hbm, 315, rfl⟩
abbrev main_v189 : Ref sig .tc := ⟨.hbm, 316, rfl⟩
abbrev main_cst_77 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_cst_78 : Ref sig .tc := ⟨.hbm, 322, rfl⟩
abbrev main_v194 : Ref sig .tc := ⟨.hbm, 323, rfl⟩
abbrev main_v195 : Ref sig .tc := ⟨.hbm, 324, rfl⟩
abbrev main_cst_79 : Ref sig .tc := ⟨.hbm, 325, rfl⟩
abbrev main_v196 : Ref sig .tc := ⟨.hbm, 326, rfl⟩
abbrev main_v197 : Ref sig .tc := ⟨.hbm, 327, rfl⟩
abbrev main_cst_80 : Ref sig .tc := ⟨.hbm, 328, rfl⟩
abbrev main_v198 : Ref sig .tc := ⟨.hbm, 329, rfl⟩
abbrev main_v199 : Ref sig .tc := ⟨.hbm, 330, rfl⟩
abbrev main_cst_81 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_v203 : Ref sig .tc := ⟨.hbm, 335, rfl⟩
abbrev main_cst_82 : Ref sig .tc := ⟨.hbm, 336, rfl⟩
abbrev main_v204 : Ref sig .tc := ⟨.hbm, 337, rfl⟩
abbrev main_v205 : Ref sig .tc := ⟨.hbm, 338, rfl⟩
abbrev main_cst_83 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_c_84 : Ref sig .tc := ⟨.hbm, 345, rfl⟩
abbrev main_v211 : Ref sig .tc := ⟨.hbm, 346, rfl⟩
abbrev main_v212 : Ref sig .tc := ⟨.hbm, 347, rfl⟩
abbrev main_c_85 : Ref sig .tc := ⟨.hbm, 348, rfl⟩
abbrev main_v213 : Ref sig .tc := ⟨.hbm, 349, rfl⟩
abbrev main_v214 : Ref sig .tc := ⟨.hbm, 350, rfl⟩
abbrev main_v215 : Ref sig .tc := ⟨.hbm, 351, rfl⟩
abbrev main_c_86 : Ref sig .tc := ⟨.hbm, 352, rfl⟩
abbrev main_v216 : Ref sig .tc := ⟨.hbm, 353, rfl⟩
abbrev main_v217 : Ref sig .tc := ⟨.hbm, 354, rfl⟩
abbrev main_c_87 : Ref sig .tc := ⟨.hbm, 355, rfl⟩
abbrev main_v218 : Ref sig .tc := ⟨.hbm, 356, rfl⟩
abbrev main_v219 : Ref sig .tc := ⟨.hbm, 357, rfl⟩
abbrev main_v220 : Ref sig .tc := ⟨.hbm, 358, rfl⟩
abbrev main_c_88 : Ref sig .tc := ⟨.hbm, 359, rfl⟩
abbrev main_v221 : Ref sig .tc := ⟨.hbm, 360, rfl⟩
abbrev main_v222 : Ref sig .tc := ⟨.hbm, 361, rfl⟩
abbrev main_c_89 : Ref sig .tc := ⟨.hbm, 362, rfl⟩
abbrev main_v223 : Ref sig .tc := ⟨.hbm, 363, rfl⟩
abbrev main_v224 : Ref sig .tc := ⟨.hbm, 364, rfl⟩
abbrev main_v225 : Ref sig .tc := ⟨.hbm, 365, rfl⟩
abbrev main_v226 : Ref sig .tc := ⟨.hbm, 366, rfl⟩
abbrev main_v227 : Ref sig .tc := ⟨.hbm, 367, rfl⟩
abbrev main_v228 : Ref sig .tc := ⟨.hbm, 368, rfl⟩
abbrev main_v229 : Ref sig .tc := ⟨.hbm, 369, rfl⟩
abbrev main_v230 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_cst_90 : Ref sig .tc := ⟨.hbm, 374, rfl⟩
abbrev main_v234 : Ref sig .tc := ⟨.hbm, 375, rfl⟩
abbrev main_v235 : Ref sig .tc := ⟨.hbm, 376, rfl⟩
abbrev main_c_91 : Ref sig .tc := ⟨.hbm, 377, rfl⟩
abbrev main_c_92 : Ref sig .tc := ⟨.hbm, 378, rfl⟩
abbrev main_call9_v0 : Ref sig .tc := ⟨.hbm, 379, rfl⟩
abbrev main_call9_v1 : Ref sig .tc := ⟨.hbm, 380, rfl⟩
abbrev main_call9_v2 : Ref sig .tc := ⟨.hbm, 381, rfl⟩
abbrev main_call9_v3 : Ref sig .tc := ⟨.hbm, 382, rfl⟩
abbrev main_call9_v4 : Ref sig .tc := ⟨.hbm, 383, rfl⟩
abbrev main_v236 : Ref sig .tc := ⟨.hbm, 384, rfl⟩
abbrev main_v237 : Ref sig .tc := ⟨.hbm, 385, rfl⟩
abbrev main_cst_93 : Ref sig .tc := ⟨.hbm, 386, rfl⟩
abbrev main_v238 : Ref sig .tc := ⟨.hbm, 387, rfl⟩
abbrev main_v239 : Ref sig .tc := ⟨.hbm, 388, rfl⟩
abbrev main_c_94 : Ref sig .tc := ⟨.hbm, 389, rfl⟩
abbrev main_c_95 : Ref sig .tc := ⟨.hbm, 390, rfl⟩
abbrev main_call10_v0 : Ref sig .tc := ⟨.hbm, 391, rfl⟩
abbrev main_call10_v1 : Ref sig .tc := ⟨.hbm, 392, rfl⟩
abbrev main_call10_v2 : Ref sig .tc := ⟨.hbm, 393, rfl⟩
abbrev main_call10_v3 : Ref sig .tc := ⟨.hbm, 394, rfl⟩
abbrev main_call10_v4 : Ref sig .tc := ⟨.hbm, 395, rfl⟩
abbrev main_v240 : Ref sig .tc := ⟨.hbm, 396, rfl⟩
abbrev main_v241 : Ref sig .tc := ⟨.hbm, 397, rfl⟩
abbrev main_cst_96 : Ref sig .tc := ⟨.hbm, 398, rfl⟩
abbrev main_v242 : Ref sig .tc := ⟨.hbm, 399, rfl⟩
abbrev main_v243 : Ref sig .tc := ⟨.hbm, 400, rfl⟩
abbrev main_c_97 : Ref sig .tc := ⟨.hbm, 401, rfl⟩
abbrev main_c_98 : Ref sig .tc := ⟨.hbm, 402, rfl⟩
abbrev main_call11_v0 : Ref sig .tc := ⟨.hbm, 403, rfl⟩
abbrev main_call11_v1 : Ref sig .tc := ⟨.hbm, 404, rfl⟩
abbrev main_call11_v2 : Ref sig .tc := ⟨.hbm, 405, rfl⟩
abbrev main_call11_v3 : Ref sig .tc := ⟨.hbm, 406, rfl⟩
abbrev main_call11_v4 : Ref sig .tc := ⟨.hbm, 407, rfl⟩
abbrev main_v244 : Ref sig .tc := ⟨.hbm, 408, rfl⟩
abbrev main_v245 : Ref sig .tc := ⟨.hbm, 409, rfl⟩
abbrev main_cst_99 : Ref sig .tc := ⟨.hbm, 410, rfl⟩
abbrev main_v246 : Ref sig .tc := ⟨.hbm, 411, rfl⟩
abbrev main_v247 : Ref sig .tc := ⟨.hbm, 412, rfl⟩
abbrev main_cst_100 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_v251 : Ref sig .tc := ⟨.hbm, 417, rfl⟩
abbrev main_cst_101 : Ref sig .tc := ⟨.hbm, 418, rfl⟩
abbrev main_v252 : Ref sig .tc := ⟨.hbm, 419, rfl⟩
abbrev main_v253 : Ref sig .tc := ⟨.hbm, 420, rfl⟩
abbrev main_cst_102 : Ref sig .tc := ⟨.hbm, 421, rfl⟩
abbrev main_v254 : Ref sig .tc := ⟨.hbm, 422, rfl⟩
abbrev main_v255 : Ref sig .tc := ⟨.hbm, 423, rfl⟩
abbrev main_cst_103 : Ref sig .tc := ⟨.hbm, 424, rfl⟩
abbrev main_v256 : Ref sig .tc := ⟨.hbm, 425, rfl⟩
abbrev main_v257 : Ref sig .tc := ⟨.hbm, 426, rfl⟩
abbrev main_cst_104 : Ref sig .tc := ⟨.hbm, 427, rfl⟩
abbrev main_v258 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_105 : Ref sig .tc := ⟨.hbm, 432, rfl⟩
abbrev main_v262 : Ref sig .tc := ⟨.hbm, 433, rfl⟩
abbrev main_v263 : Ref sig .tc := ⟨.hbm, 434, rfl⟩
abbrev main_cst_106 : Ref sig .tc := ⟨.hbm, 435, rfl⟩
abbrev main_v264 : Ref sig .tc := ⟨.hbm, 436, rfl⟩
abbrev main_v265 : Ref sig .tc := ⟨.hbm, 437, rfl⟩
abbrev main_cst_107 : Ref sig .tc := ⟨.hbm, 438, rfl⟩
abbrev main_v266 : Ref sig .tc := ⟨.hbm, 439, rfl⟩
abbrev main_v267 : Ref sig .tc := ⟨.hbm, 440, rfl⟩
abbrev main_cst_108 : Ref sig .tc := ⟨.hbm, 441, rfl⟩
abbrev main_v268 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_109 : Ref sig .tc := ⟨.hbm, 446, rfl⟩
abbrev main_v272 : Ref sig .tc := ⟨.hbm, 447, rfl⟩
abbrev main_v273 : Ref sig .tc := ⟨.hbm, 448, rfl⟩
abbrev main_cst_110 : Ref sig .tc := ⟨.hbm, 449, rfl⟩
abbrev main_v274 : Ref sig .tc := ⟨.hbm, 450, rfl⟩
abbrev main_v275 : Ref sig .tc := ⟨.hbm, 451, rfl⟩
abbrev main_v276 : Ref sig .tc := ⟨.hbm, 452, rfl⟩
abbrev main_v277 : Ref sig .tc := ⟨.hbm, 453, rfl⟩
abbrev main_v278 : Ref sig .tc := ⟨.hbm, 454, rfl⟩
abbrev main_c_111 : Ref sig .tc := ⟨.hbm, 455, rfl⟩
abbrev main_v279 : Ref sig .tc := ⟨.hbm, 456, rfl⟩
abbrev main_v280 : Ref sig .tc := ⟨.hbm, 457, rfl⟩
abbrev main_c_112 : Ref sig .tc := ⟨.hbm, 458, rfl⟩
abbrev main_v281 : Ref sig .tc := ⟨.hbm, 459, rfl⟩
abbrev main_v282 : Ref sig .tc := ⟨.hbm, 460, rfl⟩
abbrev main_v283 : Ref sig .tc := ⟨.hbm, 461, rfl⟩
abbrev main_c_113 : Ref sig .tc := ⟨.hbm, 462, rfl⟩
abbrev main_v284 : Ref sig .tc := ⟨.hbm, 463, rfl⟩
abbrev main_v285 : Ref sig .tc := ⟨.hbm, 464, rfl⟩
abbrev main_c_114 : Ref sig .tc := ⟨.hbm, 465, rfl⟩
abbrev main_v286 : Ref sig .tc := ⟨.hbm, 466, rfl⟩
abbrev main_v287 : Ref sig .tc := ⟨.hbm, 467, rfl⟩
abbrev main_v288 : Ref sig .tc := ⟨.hbm, 468, rfl⟩
abbrev main_c_115 : Ref sig .tc := ⟨.hbm, 469, rfl⟩
abbrev main_v289 : Ref sig .tc := ⟨.hbm, 470, rfl⟩
abbrev main_v290 : Ref sig .tc := ⟨.hbm, 471, rfl⟩
abbrev main_c_116 : Ref sig .tc := ⟨.hbm, 472, rfl⟩
abbrev main_v291 : Ref sig .tc := ⟨.hbm, 473, rfl⟩
abbrev main_v292 : Ref sig .tc := ⟨.hbm, 474, rfl⟩
abbrev main_v293 : Ref sig .tc := ⟨.hbm, 475, rfl⟩
abbrev main_v294 : Ref sig .tc := ⟨.hbm, 476, rfl⟩
abbrev main_v295 : Ref sig .tc := ⟨.hbm, 477, rfl⟩
abbrev main_v296 : Ref sig .tc := ⟨.hbm, 478, rfl⟩
abbrev main_v297 : Ref sig .tc := ⟨.hbm, 479, rfl⟩
abbrev main_v298 : Ref sig .tc := ⟨.hbm, 480, rfl⟩
abbrev main_v299 : Ref sig .tc := ⟨.hbm, 481, rfl⟩
abbrev main_v300 : Ref sig .tc := ⟨.hbm, 482, rfl⟩
abbrev main_v301 : Ref sig .tc := ⟨.hbm, 483, rfl⟩
abbrev main_cst_117 : Ref sig .tc := ⟨.hbm, 484, rfl⟩
abbrev main_v302 : Ref sig .tc := ⟨.hbm, 485, rfl⟩
abbrev main_v303 : Ref sig .tc := ⟨.hbm, 486, rfl⟩
abbrev main_c_118 : Ref sig .tc := ⟨.hbm, 487, rfl⟩
abbrev main_c_119 : Ref sig .tc := ⟨.hbm, 488, rfl⟩
abbrev main_call12_v0 : Ref sig .tc := ⟨.hbm, 489, rfl⟩
abbrev main_call12_v1 : Ref sig .tc := ⟨.hbm, 490, rfl⟩
abbrev main_call12_v2 : Ref sig .tc := ⟨.hbm, 491, rfl⟩
abbrev main_call12_v3 : Ref sig .tc := ⟨.hbm, 492, rfl⟩
abbrev main_call12_v4 : Ref sig .tc := ⟨.hbm, 493, rfl⟩
abbrev main_v304 : Ref sig .tc := ⟨.hbm, 494, rfl⟩
abbrev main_v305 : Ref sig .tc := ⟨.hbm, 495, rfl⟩
abbrev main_cst_120 : Ref sig .tc := ⟨.hbm, 496, rfl⟩
abbrev main_v306 : Ref sig .tc := ⟨.hbm, 497, rfl⟩
abbrev main_v307 : Ref sig .tc := ⟨.hbm, 498, rfl⟩
abbrev main_c_121 : Ref sig .tc := ⟨.hbm, 499, rfl⟩
abbrev main_c_122 : Ref sig .tc := ⟨.hbm, 500, rfl⟩
abbrev main_call13_v0 : Ref sig .tc := ⟨.hbm, 501, rfl⟩
abbrev main_call13_v1 : Ref sig .tc := ⟨.hbm, 502, rfl⟩
abbrev main_call13_v2 : Ref sig .tc := ⟨.hbm, 503, rfl⟩
abbrev main_call13_v3 : Ref sig .tc := ⟨.hbm, 504, rfl⟩
abbrev main_call13_v4 : Ref sig .tc := ⟨.hbm, 505, rfl⟩
abbrev main_v308 : Ref sig .tc := ⟨.hbm, 506, rfl⟩
abbrev main_v309 : Ref sig .tc := ⟨.hbm, 507, rfl⟩
abbrev main_cst_123 : Ref sig .tc := ⟨.hbm, 508, rfl⟩
abbrev main_v310 : Ref sig .tc := ⟨.hbm, 509, rfl⟩
abbrev main_v311 : Ref sig .tc := ⟨.hbm, 510, rfl⟩
abbrev main_c_124 : Ref sig .tc := ⟨.hbm, 511, rfl⟩
abbrev main_c_125 : Ref sig .tc := ⟨.hbm, 512, rfl⟩
abbrev main_call14_v0 : Ref sig .tc := ⟨.hbm, 513, rfl⟩
abbrev main_call14_v1 : Ref sig .tc := ⟨.hbm, 514, rfl⟩
abbrev main_call14_v2 : Ref sig .tc := ⟨.hbm, 515, rfl⟩
abbrev main_call14_v3 : Ref sig .tc := ⟨.hbm, 516, rfl⟩
abbrev main_call14_v4 : Ref sig .tc := ⟨.hbm, 517, rfl⟩
abbrev main_v312 : Ref sig .tc := ⟨.hbm, 518, rfl⟩
abbrev main_v313 : Ref sig .tc := ⟨.hbm, 519, rfl⟩
abbrev main_cst_126 : Ref sig .tc := ⟨.hbm, 520, rfl⟩
abbrev main_v314 : Ref sig .tc := ⟨.hbm, 521, rfl⟩
abbrev main_v315 : Ref sig .tc := ⟨.hbm, 522, rfl⟩
abbrev main_cst_127 : Ref sig .tc := ⟨.hbm, 523, rfl⟩
abbrev main_v316 : Ref sig .tc := ⟨.hbm, 524, rfl⟩
abbrev main_v317 : Ref sig .tc := ⟨.hbm, 525, rfl⟩
abbrev main_v318 : Ref sig .tc := ⟨.hbm, 526, rfl⟩
abbrev main_v319 : Ref sig .tc := ⟨.hbm, 527, rfl⟩
abbrev main_cst_128 : Ref sig .tc := ⟨.hbm, 528, rfl⟩
abbrev main_v320 : Ref sig .tc := ⟨.hbm, 529, rfl⟩
abbrev main_v321 : Ref sig .tc := ⟨.hbm, 530, rfl⟩
abbrev main_cst_129 : Ref sig .tc := ⟨.hbm, 531, rfl⟩
abbrev main_v322 : Ref sig .tc := ⟨.hbm, 532, rfl⟩
abbrev main_v323 : Ref sig .tc := ⟨.hbm, 533, rfl⟩
abbrev main_cst_130 : Ref sig .tc := ⟨.hbm, 534, rfl⟩
abbrev main_v324 : Ref sig .tc := ⟨.hbm, 535, rfl⟩
abbrev main_v325 : Ref sig .tc := ⟨.hbm, 536, rfl⟩
abbrev main_cst_131 : Ref sig .tc := ⟨.hbm, 537, rfl⟩
abbrev main_v326 : Ref sig .tc := ⟨.hbm, 538, rfl⟩
abbrev main_v327 : Ref sig .tc := ⟨.hbm, 539, rfl⟩
abbrev main_v328 : Ref sig .tc := ⟨.hbm, 540, rfl⟩
abbrev main_v329 : Ref sig .tc := ⟨.hbm, 541, rfl⟩
abbrev main_cst_132 : Ref sig .tc := ⟨.hbm, 542, rfl⟩
abbrev main_v330 : Ref sig .tc := ⟨.hbm, 543, rfl⟩
abbrev main_v331 : Ref sig .tc := ⟨.hbm, 544, rfl⟩
abbrev main_cst_133 : Ref sig .tc := ⟨.hbm, 545, rfl⟩
abbrev main_v332 : Ref sig .tc := ⟨.hbm, 546, rfl⟩
abbrev main_v333 : Ref sig .tc := ⟨.hbm, 547, rfl⟩
abbrev main_cst_134 : Ref sig .tc := ⟨.hbm, 548, rfl⟩
abbrev main_v334 : Ref sig .tc := ⟨.hbm, 549, rfl⟩
abbrev main_v335 : Ref sig .tc := ⟨.hbm, 550, rfl⟩
abbrev main_cst_135 : Ref sig .tc := ⟨.hbm, 551, rfl⟩
abbrev main_v336 : Ref sig .tc := ⟨.hbm, 552, rfl⟩
abbrev main_v337 : Ref sig .tc := ⟨.hbm, 553, rfl⟩
abbrev main_v338 : Ref sig .tc := ⟨.hbm, 554, rfl⟩
abbrev main_v339 : Ref sig .tc := ⟨.hbm, 555, rfl⟩
abbrev main_cst_136 : Ref sig .tc := ⟨.hbm, 556, rfl⟩
abbrev main_v340 : Ref sig .tc := ⟨.hbm, 557, rfl⟩
abbrev main_v341 : Ref sig .tc := ⟨.hbm, 558, rfl⟩
abbrev main_cst_137 : Ref sig .tc := ⟨.hbm, 559, rfl⟩
abbrev main_v342 : Ref sig .tc := ⟨.hbm, 560, rfl⟩
abbrev main_v343 : Ref sig .tc := ⟨.hbm, 561, rfl⟩
abbrev main_v344 : Ref sig .tc := ⟨.hbm, 562, rfl⟩
abbrev main_v345 : Ref sig .tc := ⟨.hbm, 563, rfl⟩
abbrev main_v346 : Ref sig .tc := ⟨.hbm, 564, rfl⟩
abbrev main_c_138 : Ref sig .tc := ⟨.hbm, 565, rfl⟩
abbrev main_v347 : Ref sig .tc := ⟨.hbm, 566, rfl⟩
abbrev main_v348 : Ref sig .tc := ⟨.hbm, 567, rfl⟩
abbrev main_c_139 : Ref sig .tc := ⟨.hbm, 568, rfl⟩
abbrev main_v349 : Ref sig .tc := ⟨.hbm, 569, rfl⟩
abbrev main_v350 : Ref sig .tc := ⟨.hbm, 570, rfl⟩
abbrev main_v351 : Ref sig .tc := ⟨.hbm, 571, rfl⟩
abbrev main_c_140 : Ref sig .tc := ⟨.hbm, 572, rfl⟩
abbrev main_v352 : Ref sig .tc := ⟨.hbm, 573, rfl⟩
abbrev main_v353 : Ref sig .tc := ⟨.hbm, 574, rfl⟩
abbrev main_c_141 : Ref sig .tc := ⟨.hbm, 575, rfl⟩
abbrev main_v354 : Ref sig .tc := ⟨.hbm, 576, rfl⟩
abbrev main_v355 : Ref sig .tc := ⟨.hbm, 577, rfl⟩
abbrev main_v356 : Ref sig .tc := ⟨.hbm, 578, rfl⟩
abbrev main_c_142 : Ref sig .tc := ⟨.hbm, 579, rfl⟩
abbrev main_v357 : Ref sig .tc := ⟨.hbm, 580, rfl⟩
abbrev main_v358 : Ref sig .tc := ⟨.hbm, 581, rfl⟩
abbrev main_c_143 : Ref sig .tc := ⟨.hbm, 582, rfl⟩
abbrev main_v359 : Ref sig .tc := ⟨.hbm, 583, rfl⟩
abbrev main_v360 : Ref sig .tc := ⟨.hbm, 584, rfl⟩
abbrev main_v361 : Ref sig .tc := ⟨.hbm, 585, rfl⟩
abbrev main_v362 : Ref sig .tc := ⟨.hbm, 586, rfl⟩
abbrev main_v363 : Ref sig .tc := ⟨.hbm, 587, rfl⟩
abbrev main_v364 : Ref sig .tc := ⟨.hbm, 588, rfl⟩
abbrev main_v365 : Ref sig .tc := ⟨.hbm, 589, rfl⟩
abbrev main_v366 : Ref sig .tc := ⟨.hbm, 590, rfl⟩
abbrev main_v367 : Ref sig .tc := ⟨.hbm, 591, rfl⟩
abbrev main_v368 : Ref sig .tc := ⟨.hbm, 592, rfl⟩
abbrev main_v369 : Ref sig .tc := ⟨.hbm, 593, rfl⟩
abbrev main_cst_144 : Ref sig .tc := ⟨.hbm, 594, rfl⟩
abbrev main_v370 : Ref sig .tc := ⟨.hbm, 595, rfl⟩
abbrev main_v371 : Ref sig .tc := ⟨.hbm, 596, rfl⟩
abbrev main_c_145 : Ref sig .tc := ⟨.hbm, 597, rfl⟩
abbrev main_c_146 : Ref sig .tc := ⟨.hbm, 598, rfl⟩
abbrev main_call15_v0 : Ref sig .tc := ⟨.hbm, 599, rfl⟩
abbrev main_call15_v1 : Ref sig .tc := ⟨.hbm, 600, rfl⟩
abbrev main_call15_v2 : Ref sig .tc := ⟨.hbm, 601, rfl⟩
abbrev main_call15_v3 : Ref sig .tc := ⟨.hbm, 602, rfl⟩
abbrev main_call15_v4 : Ref sig .tc := ⟨.hbm, 603, rfl⟩
abbrev main_v372 : Ref sig .tc := ⟨.hbm, 604, rfl⟩
abbrev main_v373 : Ref sig .tc := ⟨.hbm, 605, rfl⟩
abbrev main_cst_147 : Ref sig .tc := ⟨.hbm, 606, rfl⟩
abbrev main_v374 : Ref sig .tc := ⟨.hbm, 607, rfl⟩
abbrev main_v375 : Ref sig .tc := ⟨.hbm, 608, rfl⟩
abbrev main_c_148 : Ref sig .tc := ⟨.hbm, 609, rfl⟩
abbrev main_c_149 : Ref sig .tc := ⟨.hbm, 610, rfl⟩
abbrev main_call16_v0 : Ref sig .tc := ⟨.hbm, 611, rfl⟩
abbrev main_call16_v1 : Ref sig .tc := ⟨.hbm, 612, rfl⟩
abbrev main_call16_v2 : Ref sig .tc := ⟨.hbm, 613, rfl⟩
abbrev main_call16_v3 : Ref sig .tc := ⟨.hbm, 614, rfl⟩
abbrev main_call16_v4 : Ref sig .tc := ⟨.hbm, 615, rfl⟩
abbrev main_v376 : Ref sig .tc := ⟨.hbm, 616, rfl⟩
abbrev main_v377 : Ref sig .tc := ⟨.hbm, 617, rfl⟩
abbrev main_cst_150 : Ref sig .tc := ⟨.hbm, 618, rfl⟩
abbrev main_v378 : Ref sig .tc := ⟨.hbm, 619, rfl⟩
abbrev main_v379 : Ref sig .tc := ⟨.hbm, 620, rfl⟩
abbrev main_c_151 : Ref sig .tc := ⟨.hbm, 621, rfl⟩
abbrev main_c_152 : Ref sig .tc := ⟨.hbm, 622, rfl⟩
abbrev main_call17_v0 : Ref sig .tc := ⟨.hbm, 623, rfl⟩
abbrev main_call17_v1 : Ref sig .tc := ⟨.hbm, 624, rfl⟩
abbrev main_call17_v2 : Ref sig .tc := ⟨.hbm, 625, rfl⟩
abbrev main_call17_v3 : Ref sig .tc := ⟨.hbm, 626, rfl⟩
abbrev main_call17_v4 : Ref sig .tc := ⟨.hbm, 627, rfl⟩
abbrev main_v380 : Ref sig .tc := ⟨.hbm, 628, rfl⟩
abbrev main_v381 : Ref sig .tc := ⟨.hbm, 629, rfl⟩
abbrev main_cst_153 : Ref sig .tc := ⟨.hbm, 630, rfl⟩
abbrev main_v382 : Ref sig .tc := ⟨.hbm, 631, rfl⟩
abbrev main_v383 : Ref sig .tc := ⟨.hbm, 632, rfl⟩
abbrev main_cst_154 : Ref sig .tc := ⟨.hbm, 633, rfl⟩
abbrev main_v384 : Ref sig .tc := ⟨.hbm, 634, rfl⟩
abbrev main_v385 : Ref sig .tc := ⟨.hbm, 635, rfl⟩
abbrev main_v386 : Ref sig .tc := ⟨.hbm, 636, rfl⟩
abbrev main_v387 : Ref sig .tc := ⟨.hbm, 637, rfl⟩
abbrev main_cst_155 : Ref sig .tc := ⟨.hbm, 638, rfl⟩
abbrev main_v388 : Ref sig .tc := ⟨.hbm, 639, rfl⟩
abbrev main_v389 : Ref sig .tc := ⟨.hbm, 640, rfl⟩
abbrev main_cst_156 : Ref sig .tc := ⟨.hbm, 641, rfl⟩
abbrev main_v390 : Ref sig .tc := ⟨.hbm, 642, rfl⟩
abbrev main_v391 : Ref sig .tc := ⟨.hbm, 643, rfl⟩
abbrev main_cst_157 : Ref sig .tc := ⟨.hbm, 644, rfl⟩
abbrev main_v392 : Ref sig .tc := ⟨.hbm, 645, rfl⟩
abbrev main_v393 : Ref sig .tc := ⟨.hbm, 646, rfl⟩
abbrev main_cst_158 : Ref sig .tc := ⟨.hbm, 647, rfl⟩
abbrev main_v394 : Ref sig .tc := ⟨.hbm, 648, rfl⟩
abbrev main_v395 : Ref sig .tc := ⟨.hbm, 649, rfl⟩
abbrev main_v396 : Ref sig .tc := ⟨.hbm, 650, rfl⟩
abbrev main_v397 : Ref sig .tc := ⟨.hbm, 651, rfl⟩
abbrev main_cst_159 : Ref sig .tc := ⟨.hbm, 652, rfl⟩
abbrev main_v398 : Ref sig .tc := ⟨.hbm, 653, rfl⟩
abbrev main_v399 : Ref sig .tc := ⟨.hbm, 654, rfl⟩
abbrev main_cst_160 : Ref sig .tc := ⟨.hbm, 655, rfl⟩
abbrev main_v400 : Ref sig .tc := ⟨.hbm, 656, rfl⟩
abbrev main_v401 : Ref sig .tc := ⟨.hbm, 657, rfl⟩
abbrev main_cst_161 : Ref sig .tc := ⟨.hbm, 658, rfl⟩
abbrev main_v402 : Ref sig .tc := ⟨.hbm, 659, rfl⟩
abbrev main_v403 : Ref sig .tc := ⟨.hbm, 660, rfl⟩
abbrev main_cst_162 : Ref sig .tc := ⟨.hbm, 661, rfl⟩
abbrev main_v404 : Ref sig .tc := ⟨.hbm, 662, rfl⟩
abbrev main_v405 : Ref sig .tc := ⟨.hbm, 663, rfl⟩
abbrev main_v406 : Ref sig .tc := ⟨.hbm, 664, rfl⟩
abbrev main_v407 : Ref sig .tc := ⟨.hbm, 665, rfl⟩
abbrev main_cst_163 : Ref sig .tc := ⟨.hbm, 666, rfl⟩
abbrev main_v408 : Ref sig .tc := ⟨.hbm, 667, rfl⟩
abbrev main_v409 : Ref sig .tc := ⟨.hbm, 668, rfl⟩
abbrev main_cst_164 : Ref sig .tc := ⟨.hbm, 669, rfl⟩
abbrev main_v410 : Ref sig .tc := ⟨.hbm, 670, rfl⟩
abbrev main_v411 : Ref sig .tc := ⟨.hbm, 671, rfl⟩
abbrev main_v412 : Ref sig .tc := ⟨.hbm, 672, rfl⟩
abbrev main_v413 : Ref sig .tc := ⟨.hbm, 673, rfl⟩
abbrev main_v414 : Ref sig .tc := ⟨.hbm, 674, rfl⟩
abbrev main_c_165 : Ref sig .tc := ⟨.hbm, 675, rfl⟩
abbrev main_v415 : Ref sig .tc := ⟨.hbm, 676, rfl⟩
abbrev main_v416 : Ref sig .tc := ⟨.hbm, 677, rfl⟩
abbrev main_c_166 : Ref sig .tc := ⟨.hbm, 678, rfl⟩
abbrev main_v417 : Ref sig .tc := ⟨.hbm, 679, rfl⟩
abbrev main_v418 : Ref sig .tc := ⟨.hbm, 680, rfl⟩
abbrev main_v419 : Ref sig .tc := ⟨.hbm, 681, rfl⟩
abbrev main_c_167 : Ref sig .tc := ⟨.hbm, 682, rfl⟩
abbrev main_v420 : Ref sig .tc := ⟨.hbm, 683, rfl⟩
abbrev main_v421 : Ref sig .tc := ⟨.hbm, 684, rfl⟩
abbrev main_c_168 : Ref sig .tc := ⟨.hbm, 685, rfl⟩
abbrev main_v422 : Ref sig .tc := ⟨.hbm, 686, rfl⟩
abbrev main_v423 : Ref sig .tc := ⟨.hbm, 687, rfl⟩
abbrev main_v424 : Ref sig .tc := ⟨.hbm, 688, rfl⟩
abbrev main_c_169 : Ref sig .tc := ⟨.hbm, 689, rfl⟩
abbrev main_v425 : Ref sig .tc := ⟨.hbm, 690, rfl⟩
abbrev main_v426 : Ref sig .tc := ⟨.hbm, 691, rfl⟩
abbrev main_c_170 : Ref sig .tc := ⟨.hbm, 692, rfl⟩
abbrev main_v427 : Ref sig .tc := ⟨.hbm, 693, rfl⟩
abbrev main_v428 : Ref sig .tc := ⟨.hbm, 694, rfl⟩
abbrev main_v429 : Ref sig .tc := ⟨.hbm, 695, rfl⟩
abbrev main_v430 : Ref sig .tc := ⟨.hbm, 696, rfl⟩
abbrev main_v431 : Ref sig .tc := ⟨.hbm, 697, rfl⟩
abbrev main_v432 : Ref sig .tc := ⟨.hbm, 698, rfl⟩
abbrev main_v433 : Ref sig .tc := ⟨.hbm, 699, rfl⟩
abbrev main_v434 : Ref sig .tc := ⟨.hbm, 700, rfl⟩
abbrev main_v435 : Ref sig .tc := ⟨.hbm, 701, rfl⟩
abbrev main_v436 : Ref sig .tc := ⟨.hbm, 702, rfl⟩
abbrev main_v437 : Ref sig .tc := ⟨.hbm, 703, rfl⟩
abbrev main_cst_171 : Ref sig .tc := ⟨.hbm, 704, rfl⟩
abbrev main_v438 : Ref sig .tc := ⟨.hbm, 705, rfl⟩
abbrev main_v439 : Ref sig .tc := ⟨.hbm, 706, rfl⟩
abbrev main_c_172 : Ref sig .tc := ⟨.hbm, 707, rfl⟩
abbrev main_c_173 : Ref sig .tc := ⟨.hbm, 708, rfl⟩
abbrev main_call18_v0 : Ref sig .tc := ⟨.hbm, 709, rfl⟩
abbrev main_call18_v1 : Ref sig .tc := ⟨.hbm, 710, rfl⟩
abbrev main_call18_v2 : Ref sig .tc := ⟨.hbm, 711, rfl⟩
abbrev main_call18_v3 : Ref sig .tc := ⟨.hbm, 712, rfl⟩
abbrev main_call18_v4 : Ref sig .tc := ⟨.hbm, 713, rfl⟩
abbrev main_v440 : Ref sig .tc := ⟨.hbm, 714, rfl⟩
abbrev main_v441 : Ref sig .tc := ⟨.hbm, 715, rfl⟩
abbrev main_cst_174 : Ref sig .tc := ⟨.hbm, 716, rfl⟩
abbrev main_v442 : Ref sig .tc := ⟨.hbm, 717, rfl⟩
abbrev main_v443 : Ref sig .tc := ⟨.hbm, 718, rfl⟩
abbrev main_c_175 : Ref sig .tc := ⟨.hbm, 719, rfl⟩
abbrev main_c_176 : Ref sig .tc := ⟨.hbm, 720, rfl⟩
abbrev main_call19_v0 : Ref sig .tc := ⟨.hbm, 721, rfl⟩
abbrev main_call19_v1 : Ref sig .tc := ⟨.hbm, 722, rfl⟩
abbrev main_call19_v2 : Ref sig .tc := ⟨.hbm, 723, rfl⟩
abbrev main_call19_v3 : Ref sig .tc := ⟨.hbm, 724, rfl⟩
abbrev main_call19_v4 : Ref sig .tc := ⟨.hbm, 725, rfl⟩
abbrev main_v444 : Ref sig .tc := ⟨.hbm, 726, rfl⟩
abbrev main_v445 : Ref sig .tc := ⟨.hbm, 727, rfl⟩
abbrev main_cst_177 : Ref sig .tc := ⟨.hbm, 728, rfl⟩
abbrev main_v446 : Ref sig .tc := ⟨.hbm, 729, rfl⟩
abbrev main_v447 : Ref sig .tc := ⟨.hbm, 730, rfl⟩
abbrev main_c_178 : Ref sig .tc := ⟨.hbm, 731, rfl⟩
abbrev main_c_179 : Ref sig .tc := ⟨.hbm, 732, rfl⟩
abbrev main_call20_v0 : Ref sig .tc := ⟨.hbm, 733, rfl⟩
abbrev main_call20_v1 : Ref sig .tc := ⟨.hbm, 734, rfl⟩
abbrev main_call20_v2 : Ref sig .tc := ⟨.hbm, 735, rfl⟩
abbrev main_call20_v3 : Ref sig .tc := ⟨.hbm, 736, rfl⟩
abbrev main_call20_v4 : Ref sig .tc := ⟨.hbm, 737, rfl⟩
abbrev main_v448 : Ref sig .tc := ⟨.hbm, 738, rfl⟩
abbrev main_v449 : Ref sig .tc := ⟨.hbm, 739, rfl⟩
abbrev main_cst_180 : Ref sig .tc := ⟨.hbm, 740, rfl⟩
abbrev main_v450 : Ref sig .tc := ⟨.hbm, 741, rfl⟩
abbrev main_v451 : Ref sig .tc := ⟨.hbm, 742, rfl⟩
abbrev main_cst_181 : Ref sig .tc := ⟨.hbm, 743, rfl⟩
abbrev main_v452 : Ref sig .tc := ⟨.hbm, 744, rfl⟩
abbrev main_v453 : Ref sig .tc := ⟨.hbm, 745, rfl⟩
abbrev main_v454 : Ref sig .tc := ⟨.hbm, 746, rfl⟩
abbrev main_v455 : Ref sig .tc := ⟨.hbm, 747, rfl⟩
abbrev main_cst_182 : Ref sig .tc := ⟨.hbm, 748, rfl⟩
abbrev main_v456 : Ref sig .tc := ⟨.hbm, 749, rfl⟩
abbrev main_v457 : Ref sig .tc := ⟨.hbm, 750, rfl⟩
abbrev main_cst_183 : Ref sig .tc := ⟨.hbm, 751, rfl⟩
abbrev main_v458 : Ref sig .tc := ⟨.hbm, 752, rfl⟩
abbrev main_v459 : Ref sig .tc := ⟨.hbm, 753, rfl⟩
abbrev main_cst_184 : Ref sig .tc := ⟨.hbm, 754, rfl⟩
abbrev main_v460 : Ref sig .tc := ⟨.hbm, 755, rfl⟩
abbrev main_v461 : Ref sig .tc := ⟨.hbm, 756, rfl⟩
abbrev main_cst_185 : Ref sig .tc := ⟨.hbm, 757, rfl⟩
abbrev main_v462 : Ref sig .tc := ⟨.hbm, 758, rfl⟩
abbrev main_v463 : Ref sig .tc := ⟨.hbm, 759, rfl⟩
abbrev main_v464 : Ref sig .tc := ⟨.hbm, 760, rfl⟩
abbrev main_v465 : Ref sig .tc := ⟨.hbm, 761, rfl⟩
abbrev main_cst_186 : Ref sig .tc := ⟨.hbm, 762, rfl⟩
abbrev main_v466 : Ref sig .tc := ⟨.hbm, 763, rfl⟩
abbrev main_v467 : Ref sig .tc := ⟨.hbm, 764, rfl⟩
abbrev main_cst_187 : Ref sig .tc := ⟨.hbm, 765, rfl⟩
abbrev main_v468 : Ref sig .tc := ⟨.hbm, 766, rfl⟩
abbrev main_v469 : Ref sig .tc := ⟨.hbm, 767, rfl⟩
abbrev main_cst_188 : Ref sig .tc := ⟨.hbm, 768, rfl⟩
abbrev main_v470 : Ref sig .tc := ⟨.hbm, 769, rfl⟩
abbrev main_v471 : Ref sig .tc := ⟨.hbm, 770, rfl⟩
abbrev main_cst_189 : Ref sig .tc := ⟨.hbm, 771, rfl⟩
abbrev main_v472 : Ref sig .tc := ⟨.hbm, 772, rfl⟩
abbrev main_v473 : Ref sig .tc := ⟨.hbm, 773, rfl⟩
abbrev main_v474 : Ref sig .tc := ⟨.hbm, 774, rfl⟩
abbrev main_v475 : Ref sig .tc := ⟨.hbm, 775, rfl⟩
abbrev main_cst_190 : Ref sig .tc := ⟨.hbm, 776, rfl⟩
abbrev main_v476 : Ref sig .tc := ⟨.hbm, 777, rfl⟩
abbrev main_v477 : Ref sig .tc := ⟨.hbm, 778, rfl⟩
abbrev main_cst_191 : Ref sig .tc := ⟨.hbm, 779, rfl⟩
abbrev main_v478 : Ref sig .tc := ⟨.hbm, 780, rfl⟩
abbrev main_v479 : Ref sig .tc := ⟨.hbm, 781, rfl⟩
abbrev main_v480 : Ref sig .tc := ⟨.hbm, 782, rfl⟩
abbrev main_v481 : Ref sig .tc := ⟨.hbm, 783, rfl⟩
abbrev main_v482 : Ref sig .tc := ⟨.hbm, 784, rfl⟩
abbrev main_c_192 : Ref sig .tc := ⟨.hbm, 785, rfl⟩
abbrev main_v483 : Ref sig .tc := ⟨.hbm, 786, rfl⟩
abbrev main_v484 : Ref sig .tc := ⟨.hbm, 787, rfl⟩
abbrev main_c_193 : Ref sig .tc := ⟨.hbm, 788, rfl⟩
abbrev main_v485 : Ref sig .tc := ⟨.hbm, 789, rfl⟩
abbrev main_v486 : Ref sig .tc := ⟨.hbm, 790, rfl⟩
abbrev main_v487 : Ref sig .tc := ⟨.hbm, 791, rfl⟩
abbrev main_c_194 : Ref sig .tc := ⟨.hbm, 792, rfl⟩
abbrev main_v488 : Ref sig .tc := ⟨.hbm, 793, rfl⟩
abbrev main_v489 : Ref sig .tc := ⟨.hbm, 794, rfl⟩
abbrev main_c_195 : Ref sig .tc := ⟨.hbm, 795, rfl⟩
abbrev main_v490 : Ref sig .tc := ⟨.hbm, 796, rfl⟩
abbrev main_v491 : Ref sig .tc := ⟨.hbm, 797, rfl⟩
abbrev main_v492 : Ref sig .tc := ⟨.hbm, 798, rfl⟩
abbrev main_c_196 : Ref sig .tc := ⟨.hbm, 799, rfl⟩
abbrev main_v493 : Ref sig .tc := ⟨.hbm, 800, rfl⟩
abbrev main_v494 : Ref sig .tc := ⟨.hbm, 801, rfl⟩
abbrev main_c_197 : Ref sig .tc := ⟨.hbm, 802, rfl⟩
abbrev main_v495 : Ref sig .tc := ⟨.hbm, 803, rfl⟩
abbrev main_v496 : Ref sig .tc := ⟨.hbm, 804, rfl⟩
abbrev main_v497 : Ref sig .tc := ⟨.hbm, 805, rfl⟩
abbrev main_v498 : Ref sig .tc := ⟨.hbm, 806, rfl⟩
abbrev main_v499 : Ref sig .tc := ⟨.hbm, 807, rfl⟩
abbrev main_v500 : Ref sig .tc := ⟨.hbm, 808, rfl⟩
abbrev main_v501 : Ref sig .tc := ⟨.hbm, 809, rfl⟩
abbrev main_v502 : Ref sig .tc := ⟨.hbm, 810, rfl⟩
abbrev main_v503 : Ref sig .tc := ⟨.hbm, 811, rfl⟩
abbrev main_v504 : Ref sig .tc := ⟨.hbm, 812, rfl⟩
abbrev main_v505 : Ref sig .tc := ⟨.hbm, 813, rfl⟩
abbrev main_cst_198 : Ref sig .tc := ⟨.hbm, 814, rfl⟩
abbrev main_v506 : Ref sig .tc := ⟨.hbm, 815, rfl⟩
abbrev main_v507 : Ref sig .tc := ⟨.hbm, 816, rfl⟩
abbrev main_c_199 : Ref sig .tc := ⟨.hbm, 817, rfl⟩
abbrev main_c_200 : Ref sig .tc := ⟨.hbm, 818, rfl⟩
abbrev main_call21_v0 : Ref sig .tc := ⟨.hbm, 819, rfl⟩
abbrev main_call21_v1 : Ref sig .tc := ⟨.hbm, 820, rfl⟩
abbrev main_call21_v2 : Ref sig .tc := ⟨.hbm, 821, rfl⟩
abbrev main_call21_v3 : Ref sig .tc := ⟨.hbm, 822, rfl⟩
abbrev main_call21_v4 : Ref sig .tc := ⟨.hbm, 823, rfl⟩
abbrev main_v508 : Ref sig .tc := ⟨.hbm, 824, rfl⟩
abbrev main_v509 : Ref sig .tc := ⟨.hbm, 825, rfl⟩
abbrev main_cst_201 : Ref sig .tc := ⟨.hbm, 826, rfl⟩
abbrev main_v510 : Ref sig .tc := ⟨.hbm, 827, rfl⟩
abbrev main_v511 : Ref sig .tc := ⟨.hbm, 828, rfl⟩
abbrev main_c_202 : Ref sig .tc := ⟨.hbm, 829, rfl⟩
abbrev main_c_203 : Ref sig .tc := ⟨.hbm, 830, rfl⟩
abbrev main_call22_v0 : Ref sig .tc := ⟨.hbm, 831, rfl⟩
abbrev main_call22_v1 : Ref sig .tc := ⟨.hbm, 832, rfl⟩
abbrev main_call22_v2 : Ref sig .tc := ⟨.hbm, 833, rfl⟩
abbrev main_call22_v3 : Ref sig .tc := ⟨.hbm, 834, rfl⟩
abbrev main_call22_v4 : Ref sig .tc := ⟨.hbm, 835, rfl⟩
abbrev main_v512 : Ref sig .tc := ⟨.hbm, 836, rfl⟩
abbrev main_v513 : Ref sig .tc := ⟨.hbm, 837, rfl⟩
abbrev main_cst_204 : Ref sig .tc := ⟨.hbm, 838, rfl⟩
abbrev main_v514 : Ref sig .tc := ⟨.hbm, 839, rfl⟩
abbrev main_v515 : Ref sig .tc := ⟨.hbm, 840, rfl⟩
abbrev main_c_205 : Ref sig .tc := ⟨.hbm, 841, rfl⟩
abbrev main_c_206 : Ref sig .tc := ⟨.hbm, 842, rfl⟩
abbrev main_call23_v0 : Ref sig .tc := ⟨.hbm, 843, rfl⟩
abbrev main_call23_v1 : Ref sig .tc := ⟨.hbm, 844, rfl⟩
abbrev main_call23_v2 : Ref sig .tc := ⟨.hbm, 845, rfl⟩
abbrev main_call23_v3 : Ref sig .tc := ⟨.hbm, 846, rfl⟩
abbrev main_call23_v4 : Ref sig .tc := ⟨.hbm, 847, rfl⟩
abbrev main_v516 : Ref sig .tc := ⟨.hbm, 848, rfl⟩
abbrev main_v517 : Ref sig .tc := ⟨.hbm, 849, rfl⟩
abbrev main_cst_207 : Ref sig .tc := ⟨.hbm, 850, rfl⟩
abbrev main_v518 : Ref sig .tc := ⟨.hbm, 851, rfl⟩
abbrev main_v519 : Ref sig .tc := ⟨.hbm, 852, rfl⟩
abbrev main_cst_208 : Ref sig .tc := ⟨.hbm, 853, rfl⟩
abbrev main_v520 : Ref sig .tc := ⟨.hbm, 854, rfl⟩
abbrev main_v521 : Ref sig .tc := ⟨.hbm, 855, rfl⟩
abbrev main_v522 : Ref sig .tc := ⟨.hbm, 856, rfl⟩
abbrev main_v523 : Ref sig .tc := ⟨.hbm, 857, rfl⟩
abbrev main_cst_209 : Ref sig .tc := ⟨.hbm, 858, rfl⟩
abbrev main_v524 : Ref sig .tc := ⟨.hbm, 859, rfl⟩
abbrev main_v525 : Ref sig .tc := ⟨.hbm, 860, rfl⟩
abbrev main_cst_210 : Ref sig .tc := ⟨.hbm, 861, rfl⟩
abbrev main_v526 : Ref sig .tc := ⟨.hbm, 862, rfl⟩
abbrev main_v527 : Ref sig .tc := ⟨.hbm, 863, rfl⟩
abbrev main_cst_211 : Ref sig .tc := ⟨.hbm, 864, rfl⟩
abbrev main_v528 : Ref sig .tc := ⟨.hbm, 865, rfl⟩
abbrev main_v529 : Ref sig .tc := ⟨.hbm, 866, rfl⟩
abbrev main_cst_212 : Ref sig .tc := ⟨.hbm, 867, rfl⟩
abbrev main_v530 : Ref sig .tc := ⟨.hbm, 868, rfl⟩
abbrev main_v531 : Ref sig .tc := ⟨.hbm, 869, rfl⟩
abbrev main_v532 : Ref sig .tc := ⟨.hbm, 870, rfl⟩
abbrev main_v533 : Ref sig .tc := ⟨.hbm, 871, rfl⟩
abbrev main_cst_213 : Ref sig .tc := ⟨.hbm, 872, rfl⟩
abbrev main_v534 : Ref sig .tc := ⟨.hbm, 873, rfl⟩
abbrev main_v535 : Ref sig .tc := ⟨.hbm, 874, rfl⟩
abbrev main_cst_214 : Ref sig .tc := ⟨.hbm, 875, rfl⟩
abbrev main_v536 : Ref sig .tc := ⟨.hbm, 876, rfl⟩
abbrev main_v537 : Ref sig .tc := ⟨.hbm, 877, rfl⟩
abbrev main_cst_215 : Ref sig .tc := ⟨.hbm, 878, rfl⟩
abbrev main_v538 : Ref sig .tc := ⟨.hbm, 879, rfl⟩
abbrev main_v539 : Ref sig .tc := ⟨.hbm, 880, rfl⟩
abbrev main_cst_216 : Ref sig .tc := ⟨.hbm, 881, rfl⟩
abbrev main_v540 : Ref sig .tc := ⟨.hbm, 882, rfl⟩
abbrev main_v541 : Ref sig .tc := ⟨.hbm, 883, rfl⟩
abbrev main_v542 : Ref sig .tc := ⟨.hbm, 884, rfl⟩
abbrev main_v543 : Ref sig .tc := ⟨.hbm, 885, rfl⟩
abbrev main_cst_217 : Ref sig .tc := ⟨.hbm, 886, rfl⟩
abbrev main_v544 : Ref sig .tc := ⟨.hbm, 887, rfl⟩
abbrev main_v545 : Ref sig .tc := ⟨.hbm, 888, rfl⟩
abbrev main_cst_218 : Ref sig .tc := ⟨.hbm, 889, rfl⟩
abbrev main_v546 : Ref sig .tc := ⟨.hbm, 890, rfl⟩
abbrev main_v547 : Ref sig .tc := ⟨.hbm, 891, rfl⟩
abbrev main_v548 : Ref sig .tc := ⟨.hbm, 892, rfl⟩
abbrev main_v549 : Ref sig .tc := ⟨.hbm, 893, rfl⟩
abbrev main_v550 : Ref sig .tc := ⟨.hbm, 894, rfl⟩
abbrev main_c_219 : Ref sig .tc := ⟨.hbm, 895, rfl⟩
abbrev main_v551 : Ref sig .tc := ⟨.hbm, 896, rfl⟩
abbrev main_v552 : Ref sig .tc := ⟨.hbm, 897, rfl⟩
abbrev main_c_220 : Ref sig .tc := ⟨.hbm, 898, rfl⟩
abbrev main_v553 : Ref sig .tc := ⟨.hbm, 899, rfl⟩
abbrev main_v554 : Ref sig .tc := ⟨.hbm, 900, rfl⟩
abbrev main_v555 : Ref sig .tc := ⟨.hbm, 901, rfl⟩
abbrev main_c_221 : Ref sig .tc := ⟨.hbm, 902, rfl⟩
abbrev main_v556 : Ref sig .tc := ⟨.hbm, 903, rfl⟩
abbrev main_v557 : Ref sig .tc := ⟨.hbm, 904, rfl⟩
abbrev main_c_222 : Ref sig .tc := ⟨.hbm, 905, rfl⟩
abbrev main_v558 : Ref sig .tc := ⟨.hbm, 906, rfl⟩
abbrev main_v559 : Ref sig .tc := ⟨.hbm, 907, rfl⟩
abbrev main_v560 : Ref sig .tc := ⟨.hbm, 908, rfl⟩
abbrev main_c_223 : Ref sig .tc := ⟨.hbm, 909, rfl⟩
abbrev main_v561 : Ref sig .tc := ⟨.hbm, 910, rfl⟩
abbrev main_v562 : Ref sig .tc := ⟨.hbm, 911, rfl⟩
abbrev main_c_224 : Ref sig .tc := ⟨.hbm, 912, rfl⟩
abbrev main_v563 : Ref sig .tc := ⟨.hbm, 913, rfl⟩
abbrev main_v564 : Ref sig .tc := ⟨.hbm, 914, rfl⟩
abbrev main_v565 : Ref sig .tc := ⟨.hbm, 915, rfl⟩
abbrev main_v566 : Ref sig .tc := ⟨.hbm, 916, rfl⟩
abbrev main_v567 : Ref sig .tc := ⟨.hbm, 917, rfl⟩
abbrev main_v568 : Ref sig .tc := ⟨.hbm, 918, rfl⟩
abbrev main_v569 : Ref sig .tc := ⟨.hbm, 919, rfl⟩
abbrev main_v570 : Ref sig .tc := ⟨.hbm, 920, rfl⟩
abbrev main_v571 : Ref sig .tc := ⟨.hbm, 921, rfl⟩
abbrev main_v572 : Ref sig .tc := ⟨.hbm, 922, rfl⟩
abbrev main_v573 : Ref sig .tc := ⟨.hbm, 923, rfl⟩
abbrev main_v574 : Ref sig .tc := ⟨.hbm, 924, rfl⟩
abbrev main_v575 : Ref sig .tc := ⟨.hbm, 925, rfl⟩
abbrev main_v576 : Ref sig .tc := ⟨.hbm, 926, rfl⟩
abbrev main_v577 : Ref sig .tc := ⟨.hbm, 927, rfl⟩
abbrev main_v578 : Ref sig .tc := ⟨.hbm, 928, rfl⟩
abbrev main_v579 : Ref sig .tc := ⟨.hbm, 929, rfl⟩
abbrev main_v580 : Ref sig .tc := ⟨.hbm, 930, rfl⟩

abbrev nD : Nat := 1
abbrev τ : Topo := Topo.v7x

variable {F : FTy → Type} [FloatOps F]
-- ==== Proof.Ideal.Start.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The first part of the kernel body: the branch that fills the scratch with the horizontally interpolated grid rows. -/

/-- The condition of the body's one branch, from the grid coordinates: the first row tile of an image. -/
abbrev first (i : grid0.Coords) : Prop :=
  (Scalar.cmpi .ne (Scalar.extui (Scalar.cmpi .eq (BitVec.ofNat 32 (i 1).val) 0#32)) 0#32) = 1#1

/-- The printed floor division of a word by two. -/
def floorHalf (v21 : BitVec 32) : BitVec 32 :=
  let v22 : BitVec 32 := Scalar.divsi v21 2#32
  let v27 : BitVec 32 := Scalar.subi (Scalar.extui (Scalar.cmpi .sgt v21 0#32)) (Scalar.extui (Scalar.cmpi .slt v21 0#32))
  let v32 : BitVec 32 := Scalar.subi (Scalar.extui (Scalar.cmpi .sgt 2#32 0#32)) (Scalar.extui (Scalar.cmpi .slt 2#32 0#32))
  let v35 : BitVec 1 := Scalar.cmpi .ne (Scalar.remsi v21 2#32) 0#32
  Scalar.select (Scalar.andi (Scalar.cmpi .ne v27 v32) v35) (Scalar.subi v22 1#32) v22

/-- What the first part of the body hands on: the tile number, the row coordinates and the unclipped lower grid row. -/
def start (i : grid0.Coords) : Σ' (_ : BitVec 32) (_ : FVec F S16x1 .f32), BitVec 32 :=
  ⟨BitVec.ofNat 32 (i 1).val, k0_pay3 (F := F) i,
    floorHalf (Scalar.subi (Scalar.addi (Scalar.muli (BitVec.ofNat 32 (i 1).val) 16#32) 0#32) 1#32)⟩

set_option maxHeartbeats 4000000 in
/-- The first part of the body: it leaves the scratch at the interpolated rows of this image, stored now at an image's
    first tile and kept from the tile before at the others. -/
theorem part1_run (c : Dev nD) (i : grid0.Coords) (arg2 : Memref sig .tc .vmem S1x16x96x16 .f32) (harg2 : arg2.IsWhole) (arg3 : Memref sig .tc .vmem S1x256x512 .f32)
    (harg3 : arg3.IsWhole) (arg4 : Memref sig .tc .vmem S1x3x256x512 .f32) (harg4 : arg4.IsWhole)
    (arg5 : Memref sig .tc .vmem S1x3x256x512 .f32) (harg5 : arg5.IsWhole) (arg6 : Memref sig .tc .vmem S16x96x512 .f32)
    (harg6 : arg6.IsWhole)
    (x0 : Vec F S1x16x96x16 .f32) (xs xs' : Vec F S16x96x512 .f32)
    (hA : first i → xs' = k0_pay2 x0) (hB : ¬ first i → xs' = xs) (E : Set ℕ)
    (Q : (Σ' (_ : BitVec 32) (_ : FVec F S16x1 .f32), BitVec 32) → sProp 𝕄) :
    iprop(owns (c : Thread nD τ) arg2 fullShare x0 ∗ owns (c : Thread nD τ) arg6 fullShare xs
        ∗ (iprop(owns (c : Thread nD τ) arg2 fullShare x0 ∗ owns (c : Thread nD τ) arg6 fullShare xs') -∗ Q (start i)))
      ⊢ wp frame (wpE (defs₀ (F := F)) Variants.none c none) E
          (k0_part1 i arg2 harg2 arg3 harg3 arg4 harg4 arg5 harg5 arg6 harg6) Q := by
  by_cases hc0 : first i
  · obtain rfl := hA hc0
    simp only [k0_part1_eq_skeleton]
    unfold owns
    iintro ⟨⟨%f0, %hf0, H0⟩, ⟨%fs0, -, HS0⟩, Hk⟩
    obtain rfl := harg2.eq_unread hf0
    sl_exec (disch := first | sl_exact hc0)
    sl_step
    rw [show (⟨BitVec.ofNat 32 (i 1).val, k0_pay3 (F := F) i, part1_run.sl.v38 i⟩ :
      Σ' (_ : BitVec 32) (_ : FVec F S16x1 .f32), BitVec 32) = start i from rfl]
    iapply Hk
    isplitl [H0]
    · iexists _; isplitr; · ipureintro; exact harg2.read_unread _
      iexact H0
    iexists _; isplitr
    swap; · iexact HS0
    ipureintro
    rw [View.read_writes_full, View.readAt_full, harg2.read_unread]
  · obtain rfl := hB hc0
    simp only [k0_part1_eq_skeleton]
    unfold owns
    iintro ⟨⟨%f0, %hf0, H0⟩, ⟨%fs0, %hfs0, HS0⟩, Hk⟩
    sl_exec (disch := first | sl_exact hc0)
    sl_step
    rw [show (⟨BitVec.ofNat 32 (i 1).val, k0_pay3 (F := F) i, part1_run.sl.v38_1 i⟩ :
      Σ' (_ : BitVec 32) (_ : FVec F S16x1 .f32), BitVec 32) = start i from rfl]
    iapply Hk
    isplitl [H0]
    · iexists _; isplitr; · ipureintro; exact hf0
      iexact H0
    iexists _; isplitr
    · ipureintro; exact hfs0
    iexact HS0

end Cert.KernelIdeal.Body

end
-- ==== Proof.Ideal.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Start
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole kernel body, run once: the branch by `part1_run`, the rest straight through with the scratch at known contents. -/

set_option maxHeartbeats 40000000 in
/-- What the body's stores leave in the output's staging memref, as pieces (last first), with the proof that the body runs
    to the continuation holding the inputs as they were, the scratch at `xs'` and the output with its pieces written. The
    pieces are the ones that the run finds. -/
def bodyRun (c : Dev nD) (i : grid0.Coords) (arg2 : Memref sig .tc .vmem S1x16x96x16 .f32) (harg2 : arg2.IsWhole) (arg3 : Memref sig .tc .vmem S1x256x512 .f32)
    (harg3 : arg3.IsWhole) (arg4 : Memref sig .tc .vmem S1x3x256x512 .f32) (harg4 : arg4.IsWhole)
    (arg5 : Memref sig .tc .vmem S1x3x256x512 .f32) (harg5 : arg5.IsWhole) (arg6 : Memref sig .tc .vmem S16x96x512 .f32)
    (harg6 : arg6.IsWhole)
    (x0 : Vec F S1x16x96x16 .f32) (x1 : Vec F S1x256x512 .f32) (x2 : Vec F S1x3x256x512 .f32) (xs' : Vec F S16x96x512 .f32) :
    { L3 : List (View.Piece (Elt F) S1x3x256x512 .f32) //
      ∀ (xs : Vec F S16x96x512 .f32) (hA : first i → xs' = k0_pay2 x0) (hB : ¬ first i → xs' = xs) (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ owns (c : Thread nD τ) arg6 fullShare xs') -∗ K ⟨⟩))
          ⊢ wp frame (wpE (defs₀ (F := F)) Variants.none c none) E
              (cc0__slice_body i arg2 harg2 arg3 harg3 arg4 harg4 arg5 harg5 arg6 harg6) K } := by
  refine ⟨?_, fun xs hA hB E K => ?run⟩
  case run =>
    simp only [cc0__slice_body_eq_skeleton]; unfold cc0__slice_body_skel
    rw [wp_bind, k0_part576_eq_skeleton]; unfold k0_part576_skel
    rw [wp_bind]
    iintro ⟨H0, H1, H2, ⟨%d3, H3⟩, HS0, Hk⟩
    iapply (part1_run c i arg2 harg2 arg3 harg3 arg4 harg4 arg5 harg5 arg6 harg6 x0 xs xs' hA hB E _)
    isplitl [H0]; · iexact H0
    isplitl [HS0]; · iexact HS0
    iintro ⟨H0, HS0⟩
    dsimp only [start]
    simp only [k0_part2_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton,
      k0_part16_eq_skeleton, k0_part17_eq_skeleton, k0_part18_eq_skeleton, k0_part19_eq_skeleton,
      k0_part20_eq_skeleton, k0_part21_eq_skeleton, k0_part22_eq_skeleton, k0_part23_eq_skeleton,
      k0_part24_eq_skeleton, k0_part25_eq_skeleton, k0_part26_eq_skeleton, k0_part27_eq_skeleton,
      k0_part28_eq_skeleton, k0_part29_eq_skeleton, k0_part30_eq_skeleton, k0_part31_eq_skeleton,
      k0_part32_eq_skeleton, k0_part33_eq_skeleton, k0_part34_eq_skeleton, k0_part35_eq_skeleton,
      k0_part36_eq_skeleton, k0_part37_eq_skeleton, k0_part38_eq_skeleton, k0_part39_eq_skeleton,
      k0_part40_eq_skeleton, k0_part41_eq_skeleton, k0_part42_eq_skeleton, k0_part43_eq_skeleton,
      k0_part44_eq_skeleton, k0_part45_eq_skeleton, k0_part46_eq_skeleton, k0_part47_eq_skeleton,
      k0_part48_eq_skeleton, k0_part49_eq_skeleton, k0_part50_eq_skeleton, k0_part51_eq_skeleton,
      k0_part52_eq_skeleton, k0_part53_eq_skeleton, k0_part54_eq_skeleton, k0_part55_eq_skeleton,
      k0_part56_eq_skeleton, k0_part57_eq_skeleton, k0_part58_eq_skeleton, k0_part59_eq_skeleton,
      k0_part60_eq_skeleton, k0_part577_eq_skeleton, k0_part61_eq_skeleton, k0_part62_eq_skeleton,
      k0_part63_eq_skeleton, k0_part64_eq_skeleton, k0_part65_eq_skeleton, k0_part66_eq_skeleton,
      k0_part67_eq_skeleton, k0_part68_eq_skeleton, k0_part69_eq_skeleton, k0_part70_eq_skeleton,
      k0_part71_eq_skeleton, k0_part72_eq_skeleton, k0_part73_eq_skeleton, k0_part74_eq_skeleton,
      k0_part75_eq_skeleton, k0_part76_eq_skeleton, k0_part77_eq_skeleton, k0_part78_eq_skeleton,
      k0_part79_eq_skeleton, k0_part80_eq_skeleton, k0_part81_eq_skeleton, k0_part82_eq_skeleton,
      k0_part83_eq_skeleton, k0_part84_eq_skeleton, k0_part85_eq_skeleton, k0_part86_eq_skeleton,
      k0_part87_eq_skeleton, k0_part88_eq_skeleton, k0_part89_eq_skeleton, k0_part90_eq_skeleton,
      k0_part91_eq_skeleton, k0_part92_eq_skeleton, k0_part93_eq_skeleton, k0_part94_eq_skeleton,
      k0_part95_eq_skeleton, k0_part96_eq_skeleton, k0_part97_eq_skeleton, k0_part98_eq_skeleton,
      k0_part99_eq_skeleton, k0_part100_eq_skeleton, k0_part101_eq_skeleton, k0_part102_eq_skeleton,
      k0_part103_eq_skeleton, k0_part104_eq_skeleton, k0_part105_eq_skeleton, k0_part106_eq_skeleton,
      k0_part107_eq_skeleton, k0_part108_eq_skeleton, k0_part109_eq_skeleton, k0_part110_eq_skeleton,
      k0_part111_eq_skeleton, k0_part112_eq_skeleton, k0_part113_eq_skeleton, k0_part114_eq_skeleton,
      k0_part115_eq_skeleton, k0_part116_eq_skeleton, k0_part117_eq_skeleton, k0_part118_eq_skeleton,
      k0_part119_eq_skeleton, k0_part120_eq_skeleton, k0_part578_eq_skeleton, k0_part121_eq_skeleton,
      k0_part122_eq_skeleton, k0_part123_eq_skeleton, k0_part124_eq_skeleton, k0_part125_eq_skeleton,
      k0_part126_eq_skeleton, k0_part127_eq_skeleton, k0_part128_eq_skeleton, k0_part129_eq_skeleton,
      k0_part130_eq_skeleton, k0_part131_eq_skeleton, k0_part132_eq_skeleton, k0_part133_eq_skeleton,
      k0_part134_eq_skeleton, k0_part135_eq_skeleton, k0_part136_eq_skeleton, k0_part137_eq_skeleton,
      k0_part138_eq_skeleton, k0_part139_eq_skeleton, k0_part140_eq_skeleton, k0_part141_eq_skeleton,
      k0_part142_eq_skeleton, k0_part143_eq_skeleton, k0_part144_eq_skeleton, k0_part145_eq_skeleton,
      k0_part146_eq_skeleton, k0_part147_eq_skeleton, k0_part148_eq_skeleton, k0_part149_eq_skeleton,
      k0_part150_eq_skeleton, k0_part151_eq_skeleton, k0_part152_eq_skeleton, k0_part153_eq_skeleton,
      k0_part154_eq_skeleton, k0_part155_eq_skeleton, k0_part156_eq_skeleton, k0_part157_eq_skeleton,
      k0_part158_eq_skeleton, k0_part159_eq_skeleton, k0_part160_eq_skeleton, k0_part161_eq_skeleton,
      k0_part162_eq_skeleton, k0_part163_eq_skeleton, k0_part164_eq_skeleton, k0_part165_eq_skeleton,
      k0_part166_eq_skeleton, k0_part167_eq_skeleton, k0_part168_eq_skeleton, k0_part169_eq_skeleton,
      k0_part170_eq_skeleton, k0_part171_eq_skeleton, k0_part172_eq_skeleton, k0_part173_eq_skeleton,
      k0_part174_eq_skeleton, k0_part175_eq_skeleton, k0_part176_eq_skeleton, k0_part177_eq_skeleton,
      k0_part178_eq_skeleton, k0_part179_eq_skeleton, k0_part180_eq_skeleton, k0_part579_eq_skeleton,
      k0_part181_eq_skeleton, k0_part182_eq_skeleton, k0_part183_eq_skeleton, k0_part184_eq_skeleton,
      k0_part185_eq_skeleton, k0_part186_eq_skeleton, k0_part187_eq_skeleton, k0_part188_eq_skeleton,
      k0_part189_eq_skeleton, k0_part190_eq_skeleton, k0_part191_eq_skeleton, k0_part192_eq_skeleton,
      k0_part193_eq_skeleton, k0_part194_eq_skeleton, k0_part195_eq_skeleton, k0_part196_eq_skeleton,
      k0_part197_eq_skeleton, k0_part198_eq_skeleton, k0_part199_eq_skeleton, k0_part200_eq_skeleton,
      k0_part201_eq_skeleton, k0_part202_eq_skeleton, k0_part203_eq_skeleton, k0_part204_eq_skeleton,
      k0_part205_eq_skeleton, k0_part206_eq_skeleton, k0_part207_eq_skeleton, k0_part208_eq_skeleton,
      k0_part209_eq_skeleton, k0_part210_eq_skeleton, k0_part211_eq_skeleton, k0_part212_eq_skeleton,
      k0_part213_eq_skeleton, k0_part214_eq_skeleton, k0_part215_eq_skeleton, k0_part216_eq_skeleton,
      k0_part217_eq_skeleton, k0_part218_eq_skeleton, k0_part219_eq_skeleton, k0_part220_eq_skeleton,
      k0_part221_eq_skeleton, k0_part222_eq_skeleton, k0_part223_eq_skeleton, k0_part224_eq_skeleton,
      k0_part225_eq_skeleton, k0_part226_eq_skeleton, k0_part227_eq_skeleton, k0_part228_eq_skeleton,
      k0_part229_eq_skeleton, k0_part230_eq_skeleton, k0_part231_eq_skeleton, k0_part232_eq_skeleton,
      k0_part233_eq_skeleton, k0_part234_eq_skeleton, k0_part235_eq_skeleton, k0_part236_eq_skeleton,
      k0_part237_eq_skeleton, k0_part238_eq_skeleton, k0_part239_eq_skeleton, k0_part240_eq_skeleton,
      k0_part580_eq_skeleton, k0_part241_eq_skeleton, k0_part242_eq_skeleton, k0_part243_eq_skeleton,
      k0_part244_eq_skeleton, k0_part245_eq_skeleton, k0_part246_eq_skeleton, k0_part247_eq_skeleton,
      k0_part248_eq_skeleton, k0_part249_eq_skeleton, k0_part250_eq_skeleton, k0_part251_eq_skeleton,
      k0_part252_eq_skeleton, k0_part253_eq_skeleton, k0_part254_eq_skeleton, k0_part255_eq_skeleton,
      k0_part256_eq_skeleton, k0_part257_eq_skeleton, k0_part258_eq_skeleton, k0_part259_eq_skeleton,
      k0_part260_eq_skeleton, k0_part261_eq_skeleton, k0_part262_eq_skeleton, k0_part263_eq_skeleton,
      k0_part264_eq_skeleton, k0_part265_eq_skeleton, k0_part266_eq_skeleton, k0_part267_eq_skeleton,
      k0_part268_eq_skeleton, k0_part269_eq_skeleton, k0_part270_eq_skeleton, k0_part271_eq_skeleton,
      k0_part272_eq_skeleton, k0_part273_eq_skeleton, k0_part274_eq_skeleton, k0_part275_eq_skeleton,
      k0_part276_eq_skeleton, k0_part277_eq_skeleton, k0_part278_eq_skeleton, k0_part279_eq_skeleton,
      k0_part280_eq_skeleton, k0_part281_eq_skeleton, k0_part282_eq_skeleton, k0_part283_eq_skeleton,
      k0_part284_eq_skeleton, k0_part285_eq_skeleton, k0_part286_eq_skeleton, k0_part287_eq_skeleton,
      k0_part288_eq_skeleton, k0_part289_eq_skeleton, k0_part290_eq_skeleton, k0_part291_eq_skeleton,
      k0_part292_eq_skeleton, k0_part293_eq_skeleton, k0_part294_eq_skeleton, k0_part295_eq_skeleton,
      k0_part296_eq_skeleton, k0_part297_eq_skeleton, k0_part298_eq_skeleton, k0_part299_eq_skeleton,
      k0_part300_eq_skeleton, k0_part581_eq_skeleton, k0_part301_eq_skeleton, k0_part302_eq_skeleton,
      k0_part303_eq_skeleton, k0_part304_eq_skeleton, k0_part305_eq_skeleton, k0_part306_eq_skeleton,
      k0_part307_eq_skeleton, k0_part308_eq_skeleton, k0_part309_eq_skeleton, k0_part310_eq_skeleton,
      k0_part311_eq_skeleton, k0_part312_eq_skeleton, k0_part313_eq_skeleton, k0_part314_eq_skeleton,
      k0_part315_eq_skeleton, k0_part316_eq_skeleton, k0_part317_eq_skeleton, k0_part318_eq_skeleton,
      k0_part319_eq_skeleton, k0_part320_eq_skeleton, k0_part321_eq_skeleton, k0_part322_eq_skeleton,
      k0_part323_eq_skeleton, k0_part324_eq_skeleton, k0_part325_eq_skeleton, k0_part326_eq_skeleton,
      k0_part327_eq_skeleton, k0_part328_eq_skeleton, k0_part329_eq_skeleton, k0_part330_eq_skeleton,
      k0_part331_eq_skeleton, k0_part332_eq_skeleton, k0_part333_eq_skeleton, k0_part334_eq_skeleton,
      k0_part335_eq_skeleton, k0_part336_eq_skeleton, k0_part337_eq_skeleton, k0_part338_eq_skeleton,
      k0_part339_eq_skeleton, k0_part340_eq_skeleton, k0_part341_eq_skeleton, k0_part342_eq_skeleton,
      k0_part343_eq_skeleton, k0_part344_eq_skeleton, k0_part345_eq_skeleton, k0_part346_eq_skeleton,
      k0_part347_eq_skeleton, k0_part348_eq_skeleton, k0_part349_eq_skeleton, k0_part350_eq_skeleton,
      k0_part351_eq_skeleton, k0_part352_eq_skeleton, k0_part353_eq_skeleton, k0_part354_eq_skeleton,
      k0_part355_eq_skeleton, k0_part356_eq_skeleton, k0_part357_eq_skeleton, k0_part358_eq_skeleton,
      k0_part359_eq_skeleton, k0_part360_eq_skeleton, k0_part582_eq_skeleton, k0_part361_eq_skeleton,
      k0_part362_eq_skeleton, k0_part363_eq_skeleton, k0_part364_eq_skeleton, k0_part365_eq_skeleton,
      k0_part366_eq_skeleton, k0_part367_eq_skeleton, k0_part368_eq_skeleton, k0_part369_eq_skeleton,
      k0_part370_eq_skeleton, k0_part371_eq_skeleton, k0_part372_eq_skeleton, k0_part373_eq_skeleton,
      k0_part374_eq_skeleton, k0_part375_eq_skeleton, k0_part376_eq_skeleton, k0_part377_eq_skeleton,
      k0_part378_eq_skeleton, k0_part379_eq_skeleton, k0_part380_eq_skeleton, k0_part381_eq_skeleton,
      k0_part382_eq_skeleton, k0_part383_eq_skeleton, k0_part384_eq_skeleton, k0_part385_eq_skeleton,
      k0_part386_eq_skeleton, k0_part387_eq_skeleton, k0_part388_eq_skeleton, k0_part389_eq_skeleton,
      k0_part390_eq_skeleton, k0_part391_eq_skeleton, k0_part392_eq_skeleton, k0_part393_eq_skeleton,
      k0_part394_eq_skeleton, k0_part395_eq_skeleton, k0_part396_eq_skeleton, k0_part397_eq_skeleton,
      k0_part398_eq_skeleton, k0_part399_eq_skeleton, k0_part400_eq_skeleton, k0_part401_eq_skeleton,
      k0_part402_eq_skeleton, k0_part403_eq_skeleton, k0_part404_eq_skeleton, k0_part405_eq_skeleton,
      k0_part406_eq_skeleton, k0_part407_eq_skeleton, k0_part408_eq_skeleton, k0_part409_eq_skeleton,
      k0_part410_eq_skeleton, k0_part411_eq_skeleton, k0_part412_eq_skeleton, k0_part413_eq_skeleton,
      k0_part414_eq_skeleton, k0_part415_eq_skeleton, k0_part416_eq_skeleton, k0_part417_eq_skeleton,
      k0_part418_eq_skeleton, k0_part419_eq_skeleton, k0_part420_eq_skeleton, k0_part583_eq_skeleton,
      k0_part421_eq_skeleton, k0_part422_eq_skeleton, k0_part423_eq_skeleton, k0_part424_eq_skeleton,
      k0_part425_eq_skeleton, k0_part426_eq_skeleton, k0_part427_eq_skeleton, k0_part428_eq_skeleton,
      k0_part429_eq_skeleton, k0_part430_eq_skeleton, k0_part431_eq_skeleton, k0_part432_eq_skeleton,
      k0_part433_eq_skeleton, k0_part434_eq_skeleton, k0_part435_eq_skeleton, k0_part436_eq_skeleton,
      k0_part437_eq_skeleton, k0_part438_eq_skeleton, k0_part439_eq_skeleton, k0_part440_eq_skeleton,
      k0_part441_eq_skeleton, k0_part442_eq_skeleton, k0_part443_eq_skeleton, k0_part444_eq_skeleton,
      k0_part445_eq_skeleton, k0_part446_eq_skeleton, k0_part447_eq_skeleton, k0_part448_eq_skeleton,
      k0_part449_eq_skeleton, k0_part450_eq_skeleton, k0_part451_eq_skeleton, k0_part452_eq_skeleton,
      k0_part453_eq_skeleton, k0_part454_eq_skeleton, k0_part455_eq_skeleton, k0_part456_eq_skeleton,
      k0_part457_eq_skeleton, k0_part458_eq_skeleton, k0_part459_eq_skeleton, k0_part460_eq_skeleton,
      k0_part461_eq_skeleton, k0_part462_eq_skeleton, k0_part463_eq_skeleton, k0_part464_eq_skeleton,
      k0_part465_eq_skeleton, k0_part466_eq_skeleton, k0_part467_eq_skeleton, k0_part468_eq_skeleton,
      k0_part469_eq_skeleton, k0_part470_eq_skeleton, k0_part471_eq_skeleton, k0_part472_eq_skeleton,
      k0_part473_eq_skeleton, k0_part474_eq_skeleton, k0_part475_eq_skeleton, k0_part476_eq_skeleton,
      k0_part477_eq_skeleton, k0_part478_eq_skeleton, k0_part479_eq_skeleton, k0_part480_eq_skeleton,
      k0_part584_eq_skeleton, k0_part481_eq_skeleton, k0_part482_eq_skeleton, k0_part483_eq_skeleton,
      k0_part484_eq_skeleton, k0_part485_eq_skeleton, k0_part486_eq_skeleton, k0_part487_eq_skeleton,
      k0_part488_eq_skeleton, k0_part489_eq_skeleton, k0_part490_eq_skeleton, k0_part491_eq_skeleton,
      k0_part492_eq_skeleton, k0_part493_eq_skeleton, k0_part494_eq_skeleton, k0_part495_eq_skeleton,
      k0_part496_eq_skeleton, k0_part497_eq_skeleton, k0_part498_eq_skeleton, k0_part499_eq_skeleton,
      k0_part500_eq_skeleton, k0_part501_eq_skeleton, k0_part502_eq_skeleton, k0_part503_eq_skeleton,
      k0_part504_eq_skeleton, k0_part505_eq_skeleton, k0_part506_eq_skeleton, k0_part507_eq_skeleton,
      k0_part508_eq_skeleton, k0_part509_eq_skeleton, k0_part510_eq_skeleton, k0_part511_eq_skeleton,
      k0_part512_eq_skeleton, k0_part513_eq_skeleton, k0_part514_eq_skeleton, k0_part515_eq_skeleton,
      k0_part516_eq_skeleton, k0_part517_eq_skeleton, k0_part518_eq_skeleton, k0_part519_eq_skeleton,
      k0_part520_eq_skeleton, k0_part521_eq_skeleton, k0_part522_eq_skeleton, k0_part523_eq_skeleton,
      k0_part524_eq_skeleton, k0_part525_eq_skeleton, k0_part526_eq_skeleton, k0_part527_eq_skeleton,
      k0_part528_eq_skeleton, k0_part529_eq_skeleton, k0_part530_eq_skeleton, k0_part531_eq_skeleton,
      k0_part532_eq_skeleton, k0_part533_eq_skeleton, k0_part534_eq_skeleton, k0_part535_eq_skeleton,
      k0_part536_eq_skeleton, k0_part537_eq_skeleton, k0_part538_eq_skeleton, k0_part539_eq_skeleton,
      k0_part540_eq_skeleton, k0_part541_eq_skeleton, k0_part542_eq_skeleton, k0_part543_eq_skeleton,
      k0_part544_eq_skeleton, k0_part545_eq_skeleton, k0_part546_eq_skeleton, k0_part547_eq_skeleton,
      k0_part548_eq_skeleton, k0_part549_eq_skeleton, k0_part550_eq_skeleton, k0_part551_eq_skeleton,
      k0_part552_eq_skeleton, k0_part553_eq_skeleton, k0_part554_eq_skeleton, k0_part555_eq_skeleton,
      k0_part556_eq_skeleton, k0_part557_eq_skeleton, k0_part558_eq_skeleton, k0_part559_eq_skeleton,
      k0_part560_eq_skeleton, k0_part561_eq_skeleton, k0_part562_eq_skeleton, k0_part563_eq_skeleton,
      k0_part564_eq_skeleton, k0_part565_eq_skeleton, k0_part566_eq_skeleton, k0_part567_eq_skeleton,
      k0_part568_eq_skeleton, k0_part569_eq_skeleton, k0_part570_eq_skeleton, k0_part571_eq_skeleton,
      k0_part572_eq_skeleton, k0_part573_eq_skeleton, k0_part574_eq_skeleton, k0_part575_eq_skeleton]
    unfold owns
    icases H1 with ⟨%f1, %hf1, H1⟩
    icases H2 with ⟨%f2, %hf2, H2⟩
    icases H3 with ⟨%f3, -, H3⟩
    icases HS0 with ⟨%fs0, %hfs0, HS0⟩
    obtain rfl := harg3.eq_unread hf1; obtain rfl := harg4.eq_unread hf2; obtain rfl := harg6.eq_unread hfs0
    sl_exec
    sl_step
    iapply Hk
    isplitl [H0]; · iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

end Cert.KernelIdeal.Body

end
-- ==== Proof.Ideal.Block.lean ====
module

public import proofs.«01_k».proof.Proof.Ideal.Run

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-! One 16-row sub-block of the kernel's output, as one function of the sub-block and the colour, and the equation of the
    pieces that the run found with its 48 instances. -/

/-- The lower of the two grid rows that a sub-block reads, as the kernel computes it. -/
def low (t s : ℕ) : BitVec 32 :=
  Scalar.minsi 14#32 (Scalar.maxsi 0#32
    (floorHalf (Scalar.subi (Scalar.addi (Scalar.muli (BitVec.ofNat 32 t) 16#32) (BitVec.ofNat 32 s)) 1#32)))

/-- The grid row of a read: the lower row or the one above it. -/
def rowWord (t s : ℕ) (hi : Bool) : BitVec 32 := bif hi then Scalar.addi (low t s) 1#32 else low t s

theorem low_toNat : ∀ (t : Fin 2) (s : Fin 16), (low t s).toNat = min ((16 * t.val + s.val - 1) / 2) 14 := by decide +kernel

theorem low_toInt : ∀ (t : Fin 2) (s : Fin 16), (low t s).toInt = (min ((16 * t.val + s.val - 1) / 2) 14 : ℕ) := by decide +kernel

theorem rowWord_toNat : ∀ (t : Fin 2) (s : Fin 16) (hi : Bool),
    (rowWord t s hi).toNat = min ((16 * t.val + s.val - 1) / 2) 14 + hi.toNat := by decide +kernel

/-- The column of the scratch with channel `4c + a` at depth `k`. -/
def col (c : Fin 3) (a : Fin 4) (k : Fin 8) : Fin 96 := ⟨32 * c.val + 8 * a.val + k.val, by omega⟩

/-- The offsets of a read of one row of the scratch. -/
def rowOff (i : grid0.Coords) (s : Fin 16) (hi : Bool) (j : Fin 96) : Fin 3 → ℕ :=
  ![(rowWord (i 1).val s.val hi).toNat, j.val, 0]

theorem rowOff_inb (i : grid0.Coords) (s : Fin 16) (hi : Bool) (j : Fin 96) :
    ∀ a, rowOff i s hi j a + (![1, 1, 512] : Fin 3 → ℕ) a ≤ S16x96x512.size a := by
  intro a
  have h := rowWord_toNat (i 1) s hi
  have hj := j.isLt
  have hb : hi.toNat ≤ 1 := by cases hi <;> decide
  have hm : min ((16 * (i 1).val + s.val - 1) / 2) 14 ≤ 14 := min_le_right _ _
  fin_cases a
  · show (rowWord (i 1).val s.val hi).toNat + 1 ≤ 16
    rw [h]; omega
  · show j.val + 1 ≤ 96
    omega
  · show 0 + 512 ≤ 512
    omega

theorem guideOff_inb (s : Fin 16) : ∀ a, (![0, 16 * s.val, 0] : Fin 3 → ℕ) a + (![1, 16, 512] : Fin 3 → ℕ) a ≤ S1x256x512.size a := by
  intro a
  fin_cases a
  · show 0 + 1 ≤ 1
    omega
  · show 16 * s.val + 16 ≤ 256
    omega
  · show 0 + 512 ≤ 512
    omega

theorem imageOff_inb (s : Fin 16) (a : Fin 3) :
    ∀ b, (![0, a.val, 16 * s.val, 0] : Fin 4 → ℕ) b + (![1, 1, 16, 512] : Fin 4 → ℕ) b ≤ S1x3x256x512.size b := by
  intro b
  fin_cases b
  · show 0 + 1 ≤ 1
    omega
  · show a.val + 1 ≤ 3
    omega
  · show 16 * s.val + 16 ≤ 256
    omega
  · show 0 + 512 ≤ 512
    omega

/-- The vertical coordinates of a sub-block's rows. -/
def uyV (t s : ℕ) : FVec F S16x1 .f32 :=
  minimumf (broadcast S16x1 (Scalar.ofBits .f32 0x41700000#32)) (maximumf (broadcast S16x1 (Scalar.ofBits .f32 0x00000000#32))
    (subf (divf (addf (addf (sitofp .f32 (iota .tc S16x1 32 [0] iota_S16x1_d0_w32))
          (broadcast S16x1 (Scalar.sitofp .f32 (Scalar.muli
            (Scalar.addi (Scalar.muli (BitVec.ofNat 32 t) 16#32) (BitVec.ofNat 32 s)) 16#32))))
        (broadcast S16x1 (Scalar.ofBits .f32 0x3F000000#32))) (broadcast S16x1 (Scalar.ofBits .f32 0x42000000#32)))
      (broadcast S16x1 (Scalar.ofBits .f32 0x3F000000#32))))

/-- The weights of the upper grid row. -/
def hiV (t s : ℕ) : FVec F S16x1 .f32 :=
  minimumf (broadcast S16x1 (Scalar.ofBits .f32 0x3F800000#32)) (maximumf (broadcast S16x1 (Scalar.ofBits .f32 0x00000000#32))
    (subf (uyV t s) (broadcast S16x1 (Scalar.sitofp .f32 (low t s)))))

/-- The weights of the lower grid row. -/
def loV (t s : ℕ) : FVec F S16x1 .f32 := subf (broadcast S16x1 (Scalar.ofBits .f32 0x3F800000#32)) (hiV t s)

/-- The depth coordinates, from a sub-block of the guide. -/
def uzV (u : Vec F S1x16x512 .f32) : FVec F S16x512 .f32 :=
  minimumf (broadcast S16x512 (Scalar.ofBits .f32 0x40E00000#32)) (maximumf (broadcast S16x512 (Scalar.ofBits .f32 0x00000000#32))
    (subf (mulf (shapeCast S16x512 u shapeCasts_S1x16x512_S16x512) (broadcast S16x512 (Scalar.ofBits .f32 0x41000000#32)))
      (broadcast S16x512 (Scalar.ofBits .f32 0x3F000000#32))))

/-- The words of the depths 0 to 7. -/
def depthWord : Fin 8 → BitVec 32 :=
  ![0x00000000#32, 0x3F800000#32, 0x40000000#32, 0x40400000#32, 0x40800000#32, 0x40A00000#32, 0x40C00000#32, 0x40E00000#32]

/-- The weights of depth `k`. -/
def depthV (u : Vec F S1x16x512 .f32) (k : Fin 8) : FVec F S16x512 .f32 :=
  maximumf (subf (broadcast S16x512 (Scalar.ofBits .f32 0x3F800000#32))
    (absf (subf (uzV u) (broadcast S16x512 (Scalar.ofBits .f32 (depthWord k)))))) (broadcast S16x512 (Scalar.ofBits .f32 0x00000000#32))

/-- A row of the scratch, repeated over the sub-block's rows. -/
def rowV (v : Vec F S1x1x512 .f32) : FVec F S16x512 .f32 :=
  broadcastTo S16x512 (shapeCast S1x512 (shapeCast S512 v shapeCasts_S1x1x512_S512) shapeCasts_S512_S1x512) broadcasts_S1x512_S16x512

/-- The affine combination of the inputs with one grid row's coefficients. -/
def mixV (R : Bool → Fin 96 → Vec F S1x1x512 .f32) (p : Fin 3 → Vec F S1x1x16x512 .f32) (hi : Bool) (c : Fin 3) (k : Fin 8) :
    FVec F S16x512 .f32 :=
  addf (addf (addf (rowV (R hi (col c 3 k)))
    (mulf (rowV (R hi (col c 0 k))) (shapeCast S16x512 (p 0) shapeCasts_S1x1x16x512_S16x512)))
    (mulf (rowV (R hi (col c 1 k))) (shapeCast S16x512 (p 1) shapeCasts_S1x1x16x512_S16x512)))
    (mulf (rowV (R hi (col c 2 k))) (shapeCast S16x512 (p 2) shapeCasts_S1x1x16x512_S16x512))

/-- The contribution of depth `k`. -/
def termV (t s : ℕ) (R : Bool → Fin 96 → Vec F S1x1x512 .f32) (u : Vec F S1x16x512 .f32) (p : Fin 3 → Vec F S1x1x16x512 .f32)
    (c : Fin 3) (k : Fin 8) : FVec F S16x512 .f32 :=
  addf (mulf (mulf (depthV u k) (broadcastTo S16x512 (loV t s) broadcasts_S16x1_S16x512)) (mixV R p false c k))
    (mulf (mulf (depthV u k) (broadcastTo S16x512 (hiV t s) broadcasts_S16x1_S16x512)) (mixV R p true c k))

/-- The sub-block's output for colour `c`. -/
def blockV (t s : ℕ) (R : Bool → Fin 96 → Vec F S1x1x512 .f32) (u : Vec F S1x16x512 .f32) (p : Fin 3 → Vec F S1x1x16x512 .f32)
    (c : Fin 3) : FVec F S1x1x16x512 .f32 :=
  shapeCast S1x1x16x512 (addf (addf (addf (addf (addf (addf (addf (termV t s R u p c 0) (termV t s R u p c 1))
    (termV t s R u p c 2)) (termV t s R u p c 3)) (termV t s R u p c 4)) (termV t s R u p c 5)) (termV t s R u p c 6))
    (termV t s R u p c 7)) shapeCasts_S16x512_S1x1x16x512

section
variable (c : Dev nD) (i : grid0.Coords) (arg2 : Memref sig .tc .vmem S1x16x96x16 .f32) (harg2 : arg2.IsWhole) (arg3 : Memref sig .tc .vmem S1x256x512 .f32)
    (harg3 : arg3.IsWhole) (arg4 : Memref sig .tc .vmem S1x3x256x512 .f32) (harg4 : arg4.IsWhole)
    (arg5 : Memref sig .tc .vmem S1x3x256x512 .f32) (harg5 : arg5.IsWhole) (arg6 : Memref sig .tc .vmem S16x96x512 .f32)
    (harg6 : arg6.IsWhole)
    (x0 : Vec F S1x16x96x16 .f32) (x1 : Vec F S1x256x512 .f32) (x2 : Vec F S1x3x256x512 .f32) (xs' : Vec F S16x96x512 .f32)

/-- The piece that the body stores for sub-block `s` and colour `q`, over its loads. -/
def piece (s : Fin 16) (q : Fin 3) : View.Piece (Elt F) S1x3x256x512 .f32 :=
  ⟨Rect.unit (s := S1x3x256x512) ![0, q.val, 16 * s.val, 0] S1x1x16x512.size (imageOff_inb s q),
    blockV (i 1).val s.val
      (fun hi j => View.readAt (Elt F) arg6.view (Rect.unit (s := S16x96x512) (rowOff i s hi j) S1x1x512.size (rowOff_inb i s hi j)).toLoadRect (harg6.unread xs'))
      (View.readAt (Elt F) arg3.view (Rect.unit (s := S1x256x512) ![0, 16 * s.val, 0] S1x16x512.size (guideOff_inb s)).toLoadRect (harg3.unread x1))
      (fun a => View.readAt (Elt F) arg4.view (Rect.unit (s := S1x3x256x512) ![0, a.val, 16 * s.val, 0] S1x1x16x512.size (imageOff_inb s a)).toLoadRect (harg4.unread x2)) q⟩

/-- The pieces of the sub-blocks before `n`, last first. -/
def pieces : (n : ℕ) → n ≤ 16 → List (View.Piece (Elt F) S1x3x256x512 .f32)
  | 0, _ => []
  | n + 1, h =>
    piece i arg3 harg3 arg4 harg4 arg6 harg6 x1 x2 xs' ⟨n, h⟩ 2 :: piece i arg3 harg3 arg4 harg4 arg6 harg6 x1 x2 xs' ⟨n, h⟩ 1 ::
      piece i arg3 harg3 arg4 harg4 arg6 harg6 x1 x2 xs' ⟨n, h⟩ 0 :: pieces n (Nat.le_of_succ_le h)

theorem bodyRun_eq : (bodyRun (F := F) c i arg2 harg2 arg3 harg3 arg4 harg4 arg5 harg5 arg6 harg6 x0 x1 x2 xs').1
    = pieces i arg3 harg3 arg4 harg4 arg6 harg6 x1 x2 xs' 16 (le_refl 16) := by
  sl_kernel_rfl

end

end Cert.KernelIdeal.Body

end
-- ==== Proof.Ideal.Out.lean ====
module

public import proofs.«01_k».proof.Proof.Ideal.Block
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-! What the body leaves in the output's staging buffer, as one function of the index. -/

/-- The sub-block of an index of the block. -/
def sub (y : S1x3x256x512.Idx) : Fin 16 := ⟨(y 2).val / 16, by have h : (y 2).val < 256 := (y 2).isLt; omega⟩

/-- The index within the sub-block. -/
def within (y : S1x3x256x512.Idx) : S1x1x16x512.Idx := fun a => match a with
  | ⟨0, _⟩ => (0 : Fin 1)
  | ⟨1, _⟩ => (0 : Fin 1)
  | ⟨2, _⟩ => (⟨(y 2).val % 16, Nat.mod_lt _ (by decide)⟩ : Fin 16)
  | ⟨3, _⟩ => (y 3 : Fin 512)

/-- The output of sub-block `s` for colour `q`, from the guide's block, the image's block and the scratch. -/
def blockAt (i : grid0.Coords) (x1 : Vec F S1x256x512 .f32) (x2 : Vec F S1x3x256x512 .f32) (xs : Vec F S16x96x512 .f32)
    (s : Fin 16) (q : Fin 3) : FVec F S1x1x16x512 .f32 :=
  blockV (i 1).val s.val
    (fun hi j => View.ld xs (Rect.unit (s := S16x96x512) (rowOff i s hi j) S1x1x512.size (rowOff_inb i s hi j)))
    (View.ld x1 (Rect.unit (s := S1x256x512) ![0, 16 * s.val, 0] S1x16x512.size (guideOff_inb s)))
    (fun a => View.ld x2 (Rect.unit (s := S1x3x256x512) ![0, a.val, 16 * s.val, 0] S1x1x16x512.size (imageOff_inb s a))) q

/-- The block that the body computes. -/
def outV (i : grid0.Coords) (x1 : Vec F S1x256x512 .f32) (x2 : Vec F S1x3x256x512 .f32) (xs : Vec F S16x96x512 .f32) :
    Vec F S1x3x256x512 .f32 := fun y => blockAt i x1 x2 xs (sub y) (y 1) (within y)

theorem outV_of (i : grid0.Coords) (x1 : Vec F S1x256x512 .f32) (x2 : Vec F S1x3x256x512 .f32) (xs : Vec F S16x96x512 .f32)
    (y : S1x3x256x512.Idx) (s : Fin 16) (q : Fin 3) (x : S1x1x16x512.Idx) (hs : sub y = s) (hq : (y 1 : Fin 3) = q)
    (hw : within y = x) : outV i x1 x2 xs y = blockAt i x1 x2 xs s q x := by
  subst hs hq hw
  rfl

/-- Where a sub-block's index sits in the block. -/
def place (s : Fin 16) (q : Fin 3) (x : S1x1x16x512.Idx) : S1x3x256x512.Idx :=
  (Rect.unit (s := S1x3x256x512) ![0, q.val, 16 * s.val, 0] S1x1x16x512.size (imageOff_inb s q)).emb x

theorem sub_place (s : Fin 16) (q : Fin 3) (x : S1x1x16x512.Idx) : sub (place s q x) = s := by
  have h2 : (x 2).val < 16 := (x 2).isLt
  apply Fin.ext
  show (16 * s.val + 1 * (x 2).val) / 16 = s.val
  omega

theorem color_place (s : Fin 16) (q : Fin 3) (x : S1x1x16x512.Idx) : (place s q x 1 : Fin 3) = q := by
  have h1 : (x 1).val < 1 := (x 1).isLt
  apply Fin.ext
  show q.val + 1 * (x 1).val = q.val
  omega

theorem within_place (s : Fin 16) (q : Fin 3) (x : S1x1x16x512.Idx) : within (place s q x) = x := by
  have h0 : (x 0).val < 1 := (x 0).isLt
  have h1 : (x 1).val < 1 := (x 1).isLt
  have h2 : (x 2).val < 16 := (x 2).isLt
  funext a
  apply Fin.ext
  match a with
  | ⟨0, _⟩ => show 0 = (x 0).val; omega
  | ⟨1, _⟩ => show 0 = (x 1).val; omega
  | ⟨2, _⟩ => show (16 * s.val + 1 * (x 2).val) % 16 = (x 2).val; omega
  | ⟨3, _⟩ => show 0 + 1 * (x 3).val = (x 3).val; omega

section
variable (c : Dev nD) (i : grid0.Coords) (arg2 : Memref sig .tc .vmem S1x16x96x16 .f32) (harg2 : arg2.IsWhole) (arg3 : Memref sig .tc .vmem S1x256x512 .f32)
    (harg3 : arg3.IsWhole) (arg4 : Memref sig .tc .vmem S1x3x256x512 .f32) (harg4 : arg4.IsWhole)
    (arg5 : Memref sig .tc .vmem S1x3x256x512 .f32) (harg5 : arg5.IsWhole) (arg6 : Memref sig .tc .vmem S16x96x512 .f32)
    (harg6 : arg6.IsWhole)
    (x0 : Vec F S1x16x96x16 .f32) (x1 : Vec F S1x256x512 .f32) (x2 : Vec F S1x3x256x512 .f32) (xs' : Vec F S16x96x512 .f32)

/-- What a piece stores is the sub-block's output, the loads read through. -/
theorem piece_val (s : Fin 16) (q : Fin 3) :
    piece i arg3 harg3 arg4 harg4 arg6 harg6 x1 x2 xs' s q
      = ⟨Rect.unit (s := S1x3x256x512) ![0, q.val, 16 * s.val, 0] S1x1x16x512.size (imageOff_inb s q), blockAt i x1 x2 xs' s q⟩ := by
  unfold piece blockAt
  simp only [View.readAt_eq_ld, harg3.read_unread, harg4.read_unread, harg6.read_unread]

/-- One piece is the block function under its rectangle. -/
theorem piece_apply (s : Fin 16) (q : Fin 3) (p : View.Piece (Elt F) S1x3x256x512 .f32)
    (hp : p = piece i arg3 harg3 arg4 harg4 arg6 harg6 x1 x2 xs' s q) (x : p.1.shape.Idx) :
    p.2 x = outV i x1 x2 xs' (p.1.emb x) := by
  rw [piece_val] at hp
  subst hp
  exact (outV_of i x1 x2 xs' (place s q x) s q x (sub_place s q x) (color_place s q x) (within_place s q x)).symm

theorem mem_pieces (n : ℕ) (h : n ≤ 16) (p : View.Piece (Elt F) S1x3x256x512 .f32)
    (hp : p ∈ pieces i arg3 harg3 arg4 harg4 arg6 harg6 x1 x2 xs' n h) :
    ∃ s q, p = piece i arg3 harg3 arg4 harg4 arg6 harg6 x1 x2 xs' s q := by
  induction n with
  | zero => exact absurd hp List.not_mem_nil
  | succ n ih =>
    unfold pieces at hp
    rcases List.mem_cons.mp hp with hp | hp
    · exact ⟨_, _, hp⟩
    rcases List.mem_cons.mp hp with hp | hp
    · exact ⟨_, _, hp⟩
    rcases List.mem_cons.mp hp with hp | hp
    · exact ⟨_, _, hp⟩
    exact ih _ hp

theorem cover (y : S1x3x256x512.Idx) :
    ∃ p ∈ pieces i arg3 harg3 arg4 harg4 arg6 harg6 x1 x2 xs' 16 (le_refl 16), y ∈ p.1.set :=
  View.cover_of_tiledL (pieces i arg3 harg3 arg4 harg4 arg6 harg6 x1 x2 xs' 16 (le_refl 16)) S1x1x16x512.size (by sl_kernel_rfl) y

/-- Read back through any view, the body's pieces are the block function. -/
theorem read_bodyRun (v : View sig .tc .vmem S1x3x256x512 .f32) (f : v.ty.Contents (Elt F)) :
    v.read (Elt F) (v.writes (Elt F) f (bodyRun c i arg2 harg2 arg3 harg3 arg4 harg4 arg5 harg5 arg6 harg6 x0 x1 x2 xs').1)
      = outV i x1 x2 xs' := by
  rw [bodyRun_eq]
  funext y
  refine View.read_writes_apply_of_pieces v f (outV i x1 x2 xs') _ (fun p hp x => ?_) y (cover i arg3 harg3 arg4 harg4 arg6 harg6 x1 x2 xs' y)
  obtain ⟨s, q, hq⟩ := mem_pieces i arg3 harg3 arg4 harg4 arg6 harg6 x1 x2 xs' _ _ p hp
  exact piece_apply i arg3 harg3 arg4 harg4 arg6 harg6 x1 x2 xs' s q p hq x

end

end Cert.KernelIdeal.Body

end
-- ==== Proof.Ideal.Frame.lean ====
module

public import proofs.«01_k».proof.Proof.Gen.KernelIdeal.Frame
public import proofs.«01_k».proof.Proof.Ideal.Out
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The launch: the proof data of the pipeline, with the scratch at the image's interpolated rows after every point, and the run. -/

/-- The branch is taken at the even points: the first row tile of each image. -/
theorem first_iff (t : Fin cfg0.N) : first (grid0.coords t) ↔ t.val % 2 = 0 := by
  have ht : t.val < 8 := Nat.lt_of_lt_of_eq t.isLt N_0
  have e1 : (grid0.coords t 1).val = t.val / 1 % 2 := Pipeline.Grid.coords_val t 1 (by decide) rfl
  simp only [first, e1]
  word_cmp

/-- The staging memref of each window at a point, and the scratch operand. -/
abbrev st0 (t : Fin cfg0.N) : Memref sig .tc .vmem S1x16x96x16 .f32 := win0_0.stage (cfg0.slots t 0)
abbrev st1 (t : Fin cfg0.N) : Memref sig .tc .vmem S1x256x512 .f32 := win0_1.stage (cfg0.slots t 1)
abbrev st2 (t : Fin cfg0.N) : Memref sig .tc .vmem S1x3x256x512 .f32 := win0_2.stage (cfg0.slots t 2)
abbrev st3 (t : Fin cfg0.N) : Memref sig .tc .vmem S1x3x256x512 .f32 := win0_3.stage (cfg0.slots t 3)
abbrev scr : Memref sig .tc .vmem S16x96x512 .f32 := Memref.whole cc0_scratch0

theorem st0_whole (t : Fin cfg0.N) : (st0 t).IsWhole := hstage0_0 ((cfg0.slots t 0).cast nbuf0_0)
theorem st1_whole (t : Fin cfg0.N) : (st1 t).IsWhole := hstage0_1 ((cfg0.slots t 1).cast nbuf0_1)
theorem st2_whole (t : Fin cfg0.N) : (st2 t).IsWhole := hstage0_2 ((cfg0.slots t 2).cast nbuf0_2)
theorem st3_whole (t : Fin cfg0.N) : (st3 t).IsWhole := hstage0_3 ((cfg0.slots t 3).cast nbuf0_3)

/-- The launch's invariant, the scratch as a memref owned at some contents. -/
theorem ΦA_eq (c : Dev nD) :
    (Pipeline.ΦA spec0 c : sProp 𝕄)
      = iprop(iprop((∃ d, owns (c : Thread nD τ) scr fullShare d)) ∗ (∃ r, prngReg c r)) := by
  unfold Pipeline.ΦA
  rw [scopedRest0_eq]
  simp only [scr, owns_whole]
  try rfl

/-- The first point of the image that point `n` works on. -/
def head (n : ℕ) (h : n < cfg0.N) : Fin cfg0.N := ⟨n - n % 2, by omega⟩

/-- What the scratch holds after point `n`: the interpolated rows of its image's grid. -/
def rows (c : Dev nD) (n : ℕ) (h : n < cfg0.N) : Vec F S16x96x512 .f32 := k0_pay2 (iblk m c 0 (head n h))

theorem rows_even (c : Dev nD) (t : Fin cfg0.N) (h : t.val % 2 = 0) : rows m c t.val t.isLt = k0_pay2 (iblk m c 0 t) := by
  have e : head t.val t.isLt = t := Fin.ext (by show t.val - t.val % 2 = t.val; omega)
  unfold rows
  rw [e]

theorem rows_odd (c : Dev nD) (n : ℕ) (h : n < cfg0.N) (hn : n % 2 ≠ 0) :
    rows m c n h = rows m c (n - 1) (by omega) := by
  have e : head n h = head (n - 1) (by omega) := Fin.ext (by show n - n % 2 = n - 1 - (n - 1) % 2; omega)
  unfold rows
  rw [e]

/-- The invariant before point `n`. -/
def inv (c : Dev nD) : (n : ℕ) → n ≤ cfg0.N → sProp 𝕄
  | 0, _ => Pipeline.ΦA spec0 c
  | n + 1, h => iprop(iprop(owns (c : Thread nD τ) scr fullShare (rows m c n h)) ∗ (∃ r, prngReg c r))

theorem inv_pos (c : Dev nD) (n : ℕ) (h : n ≤ cfg0.N) (hz : n ≠ 0) :
    inv m c n h = iprop(iprop(owns (c : Thread nD τ) scr fullShare (rows m c (n - 1) (by omega))) ∗ (∃ r, prngReg c r)) := by
  cases n with
  | zero => exact absurd rfl hz
  | succ n => rfl

/-- Before any point the scratch is at some contents, which after a point within an image are that image's rows. -/
theorem inv_scratch (c : Dev nD) (t : Fin cfg0.N) :
    inv m c t.val (Nat.le_of_lt t.isLt)
      ⊢ iprop((∃ d, ⌜t.val % 2 ≠ 0 → rows m c t.val t.isLt = d⌝ ∗ owns (c : Thread nD τ) scr fullShare d) ∗ (∃ r, prngReg c r)) := by
  by_cases hz : t.val = 0
  · have e : inv m c t.val (Nat.le_of_lt t.isLt) = Pipeline.ΦA spec0 c := by
      obtain ⟨n, hn⟩ := t
      subst hz
      rfl
    rw [e, ΦA_eq]
    iintro ⟨⟨%d, H⟩, Hg⟩
    isplitl [H]
    · iexists d
      isplitr
      · ipureintro
        intro h
        exact absurd (by omega) h
      iexact H
    iexact Hg
  · rw [inv_pos m c _ _ hz]
    iintro ⟨H, Hg⟩
    isplitl [H]
    · iexists _
      isplitr
      swap
      · iexact H
      ipureintro
      intro h
      exact rows_odd m c t.val t.isLt h
    iexact Hg

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (grid0.coords t) (iblk m c 1 t) (iblk m c 2 t) (rows m c t.val t.isLt)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Φ_castSucc (c : Dev nD) (t : Fin cfg0.N) :
    (dats m 0 c).Φ t.castSucc = inv m c t.val (Nat.le_of_lt t.isLt) := by
  dsimp only [dats]
  exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t
    = outV (grid0.coords t) (iblk m c 1 t) (iblk m c 2 t) (rows m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at a point, and what it returns. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d)))

def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t))

set_option maxHeartbeats 3200000 in
/-- The body at any point. -/
theorem sound_body (c : Dev nD) (t : Fin cfg0.N) :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl,
    after0, after1, after2, after3, Φ_castSucc m c t]
  rw [show (dats m 0 c).Φ t.succ
    = iprop(iprop(owns (c : Thread nD τ) scr fullShare (rows m c t.val t.isLt)) ∗ (∃ r, prngReg c r)) from rfl]
  iintro ⟨HΦ, Ho, ⟨%d0, H0⟩, ⟨%d1, H1⟩, ⟨%d2, H2⟩, ⟨%d3, H3⟩⟩
  ihave HΦ' := (inv_scratch m c t) $$ HΦ
  icases HΦ' with ⟨⟨%ds, %hs, HS⟩, Hg⟩
  iapply ((bodyRun c (grid0.coords t) (st0 t) (st0_whole t) (st1 t) (st1_whole t) (st2 t) (st2_whole t) (st3 t) (st3_whole t) scr
    (Memref.isWhole_whole _) (iblk m c 0 t) (iblk m c 1 t) (iblk m c 2 t) (rows m c t.val t.isLt)).2 ds
    (fun h => rows_even m c t ((first_iff t).mp h)) (fun h => hs (fun h' => h ((first_iff t).mpr h'))) Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS Hg]
  · isplitl [HS]
    · iexact HS
    iexact Hg
  isplitl [Ho]; · iexact Ho
  isplitl [H0]; · iexact H0
  isplitl [H1]; · iexact H1
  isplitl [H2]; · iexact H2
  unfold owns
  iexists _
  isplitr
  swap
  · iexact H3
  ipureintro
  exact read_bodyRun c _ _ _ _ _ _ _ _ _ _ _ _ _ _ _ _ _

theorem defs₀_row (t : Fin cfg0.N) :
    defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  have hN : cfg0.N = 8 := N_0
  rw [show (dats m 0 c).Φ (Fin.last cfg0.N) = inv m c cfg0.N (le_refl _) from rfl, inv_pos m c _ _ (by omega), ΦA_eq]
  iintro ⟨HS, Hg⟩
  isplitl [HS]
  · iexists _; iexact HS
  iexact Hg

set_option backward.isDefEq.respectTransparency.types false in
/-- The launch runs, every array ends at what the proof data say, and the semaphores end at zero. -/
theorem launch_run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem post_run : θ_run defs (onTc (τ := τ) (main (F := F))) (s₀ m ρ) (Pipeline.FramePost cfgs (dats m) 0 (V m)) :=
  (θ_run defs _ _).mono (fun _ h => h.1) (launch_run m ρ)

/-- The frame: the kernel terminates, the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (post_run m ρ)) ((θ_run defs _ _).mono (fun _ h => h.2) (launch_run m ρ))

end Cert.KernelIdeal.Body

end
-- ==== Proof.Bits.Frame.lean ====
module

public import proofs.«01_k».proof.Proof.Gen.Kernel.Launch
public import proofs.«01_k».proof.Proof.Ideal.Frame
public import Idealize.ShloMosaic.PureOps.BitExact

@[expose] public section

set_option maxRecDepth 16384

noncomputable section

namespace Cert.Bits

open Idealize.ShloMosaic Idealize.ShloMosaic.TcCoe Idealize.SL.Sem Idealize.ShloMosaic.Tactic

/-! The kernel at the bit patterns: its text is the text that the idealization reads, so its frame is the one proved there. -/

/-- The frame of the kernel as a proposition. -/
def FrameK (m : (ℓ : Loc Cert.Kernel.nD Cert.Kernel.τ Cert.Kernel.sig) → Buf (Elt Bits) ℓ) (g : Dev Cert.Kernel.nD → PrngReg) : Prop :=
  θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

/-- The frame of the idealization's text at the bit patterns. -/
def FrameI (m : (ℓ : Loc Cert.KernelIdeal.nD Cert.KernelIdeal.τ Cert.KernelIdeal.sig) → Buf (Elt Bits) ℓ) (g : Dev Cert.KernelIdeal.nD → PrngReg) : Prop :=
  θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem frame_eq : @FrameK = @FrameI := by
  sl_kernel_rfl

theorem frame (m : (ℓ : Loc Cert.Kernel.nD Cert.Kernel.τ Cert.Kernel.sig) → Buf (Elt Bits) ℓ) (g : Dev Cert.Kernel.nD → PrngReg) : FrameK m g := by
  rw [frame_eq]
  exact Cert.KernelIdeal.Body.frame _ _

end Cert.Bits

end
-- ==== Proof.Ref.Frame.lean ====
module

public import proofs.«01_k».proof.Proof.Gen.ReferenceIdeal.Run

@[expose] public section

noncomputable section

namespace Cert.ReferenceIdeal.Value

open Cert.ReferenceIdeal Cert.ReferenceIdeal.Gen
open Idealize.ShloMosaic Idealize.ShloMosaic.TcCoe Idealize.SL.Sem

variable {F : FTy → Type} [FloatOps F]

/-- The reference's program declares no semaphore. -/
theorem no_sem (x y : GSem nD τ sig → Int) : x = y := by
  funext s
  obtain ⟨_, q⟩ := s
  cases q with
  | reg i => exact i.elim0
  | dma i => exact i.elim0

/-- The frame of the reference: it terminates and the arguments end unchanged. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c => (h c).2, no_sem _ _⟩) (run m ρ)

end Cert.ReferenceIdeal.Value

end
-- ==== Proof.Math.Hat.lean ====
module

public import Idealize.ShloMosaic.Lib.IdealHost

@[expose] public section

/-! Linear interpolation on a grid of `n + 1` nodes, in real numbers. The hat functions at a clamped coordinate, summed over all
nodes, give the same value as the two nodes around the coordinate, each node clamped after its weight is taken. -/

noncomputable section

namespace Cert.Interp

/-- The hat function. -/
def hat (a : ℝ) : ℝ := max (1 - |a|) 0

/-- A coordinate clamped between 0 and `b`. -/
def clip (b v : ℝ) : ℝ := min b (max 0 v)

/-- The node `z`, clamped between 0 and `n`. -/
def node (n : ℕ) (z : ℤ) : ℕ := (max 0 (min (n : ℤ) z)).toNat

/-- The weight of the node `d` steps above the floor of `v`. -/
def weight (v : ℝ) (d : ℝ) : ℝ := hat ((⌊v⌋ : ℝ) + d - v)

theorem hat_zero : hat 0 = 1 := by norm_num [hat]

theorem hat_far (a : ℝ) (h : 1 ≤ |a|) : hat a = 0 := max_eq_right (by linarith)

theorem hat_near (a : ℝ) (h : |a| ≤ 1) : hat a = 1 - |a| := max_eq_left (by linarith)

theorem node_le (n : ℕ) (z : ℤ) : node n z ≤ n := by unfold node; omega

/-- The hats at a coordinate between the nodes `j` and `j + 1` meet only these two. -/
theorem sum_hat (n j : ℕ) (hj : j < n) (e : ℝ) (h0 : 0 ≤ e) (h1 : e ≤ 1) (f : ℕ → ℝ) :
    ∑ k ∈ Finset.range (n + 1), hat ((j : ℝ) + e - k) * f k = (1 - e) * f j + e * f (j + 1) := by
  rw [Finset.sum_eq_add j (j + 1) (by omega)]
  · rw [hat_near _ (by rw [abs_le]; constructor <;> linarith), hat_near _ (by push_cast; rw [abs_le]; constructor <;> linarith)]
    have e1 : |(j : ℝ) + e - j| = e := by rw [show (j : ℝ) + e - j = e by ring]; exact abs_of_nonneg h0
    have e2 : |(j : ℝ) + e - ((j + 1 : ℕ) : ℝ)| = 1 - e := by
      push_cast
      rw [show (j : ℝ) + e - (j + 1) = -(1 - e) by ring, abs_neg]
      exact abs_of_nonneg (by linarith)
    rw [e1, e2]; ring
  · intro k _ hk
    have : hat ((j : ℝ) + e - k) = 0 := by
      apply hat_far
      rcases Nat.lt_or_ge k j with h | h
      · have : (k : ℝ) + 1 ≤ j := by exact_mod_cast h
        rw [le_abs]; left; linarith
      · have : (j : ℝ) + 2 ≤ k := by
          have h2 : j + 2 ≤ k := by omega
          exact_mod_cast h2
        rw [le_abs]; right; linarith
    rw [this, zero_mul]
  · intro h; exact absurd (Finset.mem_range.2 (by omega)) h
  · intro h; exact absurd (Finset.mem_range.2 (by omega)) h

theorem weight_zero (v : ℝ) : weight v 0 = 1 - Int.fract v := by
  have h0 := Int.fract_nonneg v
  have h1 := Int.fract_lt_one v
  have e : (⌊v⌋ : ℝ) + 0 - v = -Int.fract v := by rw [Int.fract]; ring
  rw [weight, e, hat_near _ (by rw [abs_neg, abs_of_nonneg h0]; linarith), abs_neg, abs_of_nonneg h0]

theorem weight_one (v : ℝ) : weight v 1 = Int.fract v := by
  have h0 := Int.fract_nonneg v
  have h1 := Int.fract_lt_one v
  have e : (⌊v⌋ : ℝ) + 1 - v = 1 - Int.fract v := by rw [Int.fract]; ring
  have e2 : |1 - Int.fract v| = 1 - Int.fract v := abs_of_nonneg (by linarith)
  rw [weight, e, hat_near _ (by rw [e2]; linarith), e2]; ring

/-- The hats at the clamped coordinate against the two clamped nodes. -/
theorem sum_clip (n : ℕ) (hn : 0 < n) (v : ℝ) (f : ℕ → ℝ) :
    ∑ k ∈ Finset.range (n + 1), hat (clip n v - k) * f k
      = weight v 0 * f (node n ⌊v⌋) + weight v 1 * f (node n (⌊v⌋ + 1)) := by
  rw [weight_zero, weight_one]
  have hf := Int.floor_add_fract v
  have h0 := Int.fract_nonneg v
  have h1 := Int.fract_lt_one v
  rcases lt_or_ge ⌊v⌋ 0 with hneg | hpos
  · have hv : v ≤ 0 := by
      have : (⌊v⌋ : ℝ) ≤ -1 := by exact_mod_cast (show ⌊v⌋ ≤ -1 by omega)
      linarith
    have hc : clip n v = ((0 : ℕ) : ℝ) + 0 := by
      simp only [clip, max_eq_left hv]; simp
    rw [hc, sum_hat n 0 hn 0 le_rfl zero_le_one]
    rw [show node n ⌊v⌋ = 0 by unfold node; omega, show node n (⌊v⌋ + 1) = 0 by unfold node; omega]
    ring
  · rcases lt_or_ge ⌊v⌋ n with hlt | hge
    · obtain ⟨j, hj⟩ := Int.eq_ofNat_of_zero_le hpos
      have hjn : j < n := by omega
      have hfl : (⌊v⌋ : ℝ) = j := by rw [hj]; simp
      have hc : clip n v = (j : ℝ) + Int.fract v := by
        have : (j : ℝ) + 1 ≤ n := by exact_mod_cast hjn
        have hj0 : (0 : ℝ) ≤ j := Nat.cast_nonneg j
        rw [clip, max_eq_right (by linarith), min_eq_right (by linarith)]; linarith
      rw [hc, sum_hat n j hjn _ h0 h1.le]
      rw [show node n ⌊v⌋ = j by unfold node; omega, show node n (⌊v⌋ + 1) = j + 1 by unfold node; omega]
    · have hc : clip n v = ((n - 1 : ℕ) : ℝ) + 1 := by
        have : (n : ℝ) ≤ ⌊v⌋ := by exact_mod_cast hge
        have hn0 : (0 : ℝ) ≤ n := Nat.cast_nonneg n
        rw [clip, max_eq_right (by linarith), min_eq_left (by linarith), Nat.cast_sub hn]; simp
      rw [hc, sum_hat n (n - 1) (by omega) 1 zero_le_one le_rfl]
      rw [show node n ⌊v⌋ = n by unfold node; omega, show node n (⌊v⌋ + 1) = n by unfold node; omega,
        show n - 1 + 1 = n by omega]
      ring

end Cert.Interp

end
-- ==== Proof.Math.Trilinear.lean ====
module

public import proofs.«01_k».proof.Proof.Math.Hat

@[expose] public section

/-! Trilinear interpolation in a grid of 8 by 16 by 16 nodes, in real numbers: the sum that the kernel takes against the sum over
the eight corners. -/

noncomputable section

namespace Cert.Interp

/-- The position of image row (or column) `h` among the grid rows (or columns). -/
def pos (h : ℕ) : ℝ := ((h : ℝ) + 1 / 2) / 32 - 1 / 2

/-- The grid row below image row `h` that the kernel starts from. -/
def lowRow (h : ℕ) : ℕ := min ((h / 16 - 1) / 2) 14

/-- The weight of the grid row after it. -/
def hiWeight (h : ℕ) : ℝ := clip 1 (clip 15 (pos h) - lowRow h)

/-- The clamped height lies between the two grid rows. -/
theorem row_split (h : ℕ) (hh : h < 512) : (lowRow h : ℝ) + hiWeight h = clip 15 (pos h) := by
  have hb : 16 * (h / 16) + h % 16 = h := Nat.div_add_mod h 16
  have hr : h % 16 < 16 := Nat.mod_lt _ (by norm_num)
  have hq : h / 16 < 32 := by omega
  have hb' : (h : ℝ) = 16 * ((h / 16 : ℕ) : ℝ) + ((h % 16 : ℕ) : ℝ) := by exact_mod_cast hb.symm
  have hr0 : (0 : ℝ) ≤ ((h % 16 : ℕ) : ℝ) := Nat.cast_nonneg _
  have hr1 : ((h % 16 : ℕ) : ℝ) ≤ 15 := by exact_mod_cast (show h % 16 ≤ 15 by omega)
  suffices hs : (lowRow h : ℝ) ≤ clip 15 (pos h) ∧ clip 15 (pos h) ≤ lowRow h + 1 by
    rw [hiWeight]
    conv_lhs => rw [clip]
    rw [max_eq_right (by linarith), min_eq_right (by linarith)]; ring
  generalize h / 16 = b at *
  generalize ((h % 16 : ℕ) : ℝ) = r at *
  have hv : pos h = (b : ℝ) / 2 + r / 32 + 1 / 64 - 1 / 2 := by rw [pos, hb']; ring
  obtain ⟨a, rfl | rfl⟩ : ∃ a, b = 2 * a ∨ b = 2 * a + 1 := ⟨b / 2, by omega⟩
  · rcases Nat.eq_zero_or_pos a with rfl | ha
    · have hc : clip 15 (pos h) = 0 := by
        rw [clip, max_eq_left (by rw [hv]; push_cast; linarith)]; norm_num
      rw [hc, lowRow, show min ((h / 16 - 1) / 2) 14 = 0 by omega]; norm_num
    · obtain ⟨a, rfl⟩ : ∃ a', a = a' + 1 := ⟨a - 1, by omega⟩
      have ha' : (a : ℝ) ≤ 14 := by exact_mod_cast (show a ≤ 14 by omega)
      have ha0 : (0 : ℝ) ≤ a := Nat.cast_nonneg a
      have hc : clip 15 (pos h) = (a : ℝ) + 1 / 2 + r / 32 + 1 / 64 := by
        rw [clip, max_eq_right (by rw [hv]; push_cast; linarith), min_eq_right (by rw [hv]; push_cast; linarith), hv]
        push_cast; ring
      rw [hc, lowRow, show min ((h / 16 - 1) / 2) 14 = a by omega]
      constructor <;> linarith
  · have ha0 : (0 : ℝ) ≤ a := Nat.cast_nonneg a
    rcases Nat.lt_or_ge a 15 with ha | ha
    · have ha' : (a : ℝ) ≤ 14 := by exact_mod_cast (show a ≤ 14 by omega)
      have hc : clip 15 (pos h) = (a : ℝ) + r / 32 + 1 / 64 := by
        rw [clip, max_eq_right (by rw [hv]; push_cast; linarith), min_eq_right (by rw [hv]; push_cast; linarith), hv]
        push_cast; ring
      rw [hc, lowRow, show min ((h / 16 - 1) / 2) 14 = a by omega]
      constructor <;> linarith
    · obtain rfl : a = 15 := by omega
      have hc : clip 15 (pos h) = 15 := by
        rw [clip, max_eq_right (by rw [hv]; push_cast; linarith), min_eq_left (by rw [hv]; push_cast; linarith)]
      rw [hc, lowRow, show min ((h / 16 - 1) / 2) 14 = 14 by omega]; norm_num

theorem hiWeight_nonneg (h : ℕ) : 0 ≤ hiWeight h := le_min zero_le_one (le_max_left _ _)

theorem hiWeight_le (h : ℕ) : hiWeight h ≤ 1 := min_le_left _ _

theorem hat_comm (a b : ℝ) : hat (a - b) = hat (b - a) := by simp only [hat, abs_sub_comm]

/-- One row of one depth of the grid, interpolated along the columns. -/
def lanes (f : ℕ → ℕ → ℕ → ℝ) (x : ℝ) (k y : ℕ) : ℝ := ∑ j ∈ Finset.range 16, f k y j * hat (j - clip 15 x)

/-- One depth of the grid, interpolated along the columns and between the two rows. -/
def plane (f : ℕ → ℕ → ℕ → ℝ) (x : ℝ) (h k : ℕ) : ℝ :=
  (1 - hiWeight h) * lanes f x k (lowRow h) + hiWeight h * lanes f x k (lowRow h + 1)

/-- The kernel's interpolation: along the depths last. -/
def tri (f : ℕ → ℕ → ℕ → ℝ) (x z : ℝ) (h : ℕ) : ℝ := ∑ k ∈ Finset.range 8, hat (clip 7 z - k) * plane f x h k

/-- The contribution of the corner `dx`, `dy`, `dz` steps above the floors. -/
def corner (f : ℕ → ℕ → ℕ → ℝ) (x y z : ℝ) (dx dy dz : ℤ) : ℝ :=
  weight x dx * weight y dy * weight z dz * f (node 7 (⌊z⌋ + dz)) (node 15 (⌊y⌋ + dy)) (node 15 (⌊x⌋ + dx))

/-- The eight corners, summed in the reference's order. -/
def corners (f : ℕ → ℕ → ℕ → ℝ) (x y z : ℝ) : ℝ :=
  0 + corner f x y z 0 0 0 + corner f x y z 0 0 1 + corner f x y z 0 1 0 + corner f x y z 0 1 1
    + corner f x y z 1 0 0 + corner f x y z 1 0 1 + corner f x y z 1 1 0 + corner f x y z 1 1 1

theorem lanes_eq (f : ℕ → ℕ → ℕ → ℝ) (x : ℝ) (k y : ℕ) :
    lanes f x k y = weight x 0 * f k y (node 15 ⌊x⌋) + weight x 1 * f k y (node 15 (⌊x⌋ + 1)) := by
  have h := sum_clip 15 (by norm_num) x (f k y)
  rw [← h, lanes]
  refine Finset.sum_congr rfl fun j _ => ?_
  rw [hat_comm, mul_comm]
  norm_num

theorem rows_eq (h : ℕ) (hh : h < 512) (f : ℕ → ℝ) :
    (1 - hiWeight h) * f (lowRow h) + hiWeight h * f (lowRow h + 1)
      = weight (pos h) 0 * f (node 15 ⌊pos h⌋) + weight (pos h) 1 * f (node 15 (⌊pos h⌋ + 1)) := by
  rw [← sum_clip 15 (by norm_num) (pos h) f,
    ← sum_hat 15 (lowRow h) (by unfold lowRow; omega) (hiWeight h) (hiWeight_nonneg h) (hiWeight_le h) f, row_split h hh]
  norm_num

/-- The two interpolations agree. -/
theorem tri_eq (f : ℕ → ℕ → ℕ → ℝ) (x z : ℝ) (h : ℕ) (hh : h < 512) : tri f x z h = corners f x (pos h) z := by
  have hz := sum_clip 7 (by norm_num) z (plane f x h)
  have e : tri f x z h = weight z 0 * plane f x h (node 7 ⌊z⌋) + weight z 1 * plane f x h (node 7 (⌊z⌋ + 1)) := by
    rw [← hz, tri]; norm_num
  have p (k : ℕ) : plane f x h k = weight (pos h) 0 * lanes f x k (node 15 ⌊pos h⌋)
      + weight (pos h) 1 * lanes f x k (node 15 (⌊pos h⌋ + 1)) := rows_eq h hh (lanes f x k)
  rw [e, p, p]
  simp only [lanes_eq, corners, corner, Int.cast_zero, Int.cast_one, add_zero]
  ring

/-- The kernel's contribution of depth `k`: the affine combination at each of the two grid rows, weighted. -/
def depthTerm (A : ℕ → ℕ → ℕ → ℕ → ℝ) (p : ℕ → ℝ) (x z : ℝ) (h k : ℕ) : ℝ :=
  hat (clip 7 z - k) * (1 - hiWeight h) * (lanes (A 3) x k (lowRow h) + lanes (A 0) x k (lowRow h) * p 0
      + lanes (A 1) x k (lowRow h) * p 1 + lanes (A 2) x k (lowRow h) * p 2)
    + hat (clip 7 z - k) * hiWeight h * (lanes (A 3) x k (lowRow h + 1) + lanes (A 0) x k (lowRow h + 1) * p 0
      + lanes (A 1) x k (lowRow h + 1) * p 1 + lanes (A 2) x k (lowRow h + 1) * p 2)

/-- The affine transform with interpolated coefficients: the kernel's sum over the depths is the reference's combination. -/
theorem affine_eq (A : ℕ → ℕ → ℕ → ℕ → ℝ) (p : ℕ → ℝ) (x z : ℝ) (h : ℕ) (hh : h < 512) :
    ∑ k ∈ Finset.range 8, depthTerm A p x z h k
      = (p 0 * corners (A 0) x (pos h) z + p 1 * corners (A 1) x (pos h) z + p 2 * corners (A 2) x (pos h) z)
        + corners (A 3) x (pos h) z := by
  simp only [← tri_eq _ x z h hh, tri, Finset.mul_sum, ← Finset.sum_add_distrib]
  refine Finset.sum_congr rfl fun k _ => ?_
  simp only [depthTerm, plane]
  ring

end Cert.Interp

end
-- ==== Proof.Value.Scalar.lean ====
module

public import proofs.«01_k».proof.Proof.Math.Trilinear
public import Idealize.ShloMosaic.Lib.Pointwise

@[expose] public section

/-! The exact operations at real numbers, and the constants of the two programs. -/

noncomputable section

namespace Cert.Interp

open Idealize.ShloMosaic

theorem c_half : Ideal.ofBits .f32 0x3F000000#32 = ((1 / 2 : ℝ) : EReal) := by
  simp [Ideal.ofBits, Ideal.ieee]; norm_num; rw [← EReal.coe_mul]; norm_num

theorem c_2 : Ideal.ofBits .f32 0x40000000#32 = ((2 : ℝ) : EReal) := by
  simp [Ideal.ofBits, Ideal.ieee]; norm_num; rw [← EReal.coe_mul]; norm_num

theorem c_3 : Ideal.ofBits .f32 0x40400000#32 = ((3 : ℝ) : EReal) := by
  simp [Ideal.ofBits, Ideal.ieee]; norm_num; rw [← EReal.coe_mul]; norm_num

theorem c_4 : Ideal.ofBits .f32 0x40800000#32 = ((4 : ℝ) : EReal) := by
  simp [Ideal.ofBits, Ideal.ieee]; norm_num; rw [← EReal.coe_mul]; norm_num

theorem c_5 : Ideal.ofBits .f32 0x40A00000#32 = ((5 : ℝ) : EReal) := by
  simp [Ideal.ofBits, Ideal.ieee]; norm_num; rw [← EReal.coe_mul]; norm_num

theorem c_6 : Ideal.ofBits .f32 0x40C00000#32 = ((6 : ℝ) : EReal) := by
  simp [Ideal.ofBits, Ideal.ieee]; norm_num; rw [← EReal.coe_mul]; norm_num

theorem c_7 : Ideal.ofBits .f32 0x40E00000#32 = ((7 : ℝ) : EReal) := by
  simp [Ideal.ofBits, Ideal.ieee]; norm_num; rw [← EReal.coe_mul]; norm_num

theorem c_8 : Ideal.ofBits .f32 0x41000000#32 = ((8 : ℝ) : EReal) := by
  simp [Ideal.ofBits, Ideal.ieee]; norm_num; rw [← EReal.coe_mul]; norm_num

theorem c_15 : Ideal.ofBits .f32 0x41700000#32 = ((15 : ℝ) : EReal) := by
  simp [Ideal.ofBits, Ideal.ieee]; norm_num; rw [← EReal.coe_mul]; norm_num

theorem c_16 : Ideal.ofBits .f32 0x41800000#32 = ((16 : ℝ) : EReal) := by
  simp [Ideal.ofBits, Ideal.ieee]; norm_num; rw [← EReal.coe_mul]; norm_num

theorem c_32 : Ideal.ofBits .f32 0x42000000#32 = ((32 : ℝ) : EReal) := by
  simp [Ideal.ofBits, Ideal.ieee]; norm_num; rw [← EReal.coe_mul]; norm_num

theorem c_512 : Ideal.ofBits .f32 0x44000000#32 = ((512 : ℝ) : EReal) := by
  simp [Ideal.ofBits, Ideal.ieee]; norm_num; rw [← EReal.coe_mul]; norm_num

theorem coe_absf (a : ℝ) : FloatOps.absf (F := Ideal) (φ := .f32) ((a : ℝ) : EReal) = ((|a| : ℝ) : EReal) := by
  show max (a : EReal) (-(a : EReal)) = _
  rw [← EReal.coe_neg, ← EReal.coe_strictMono.monotone.map_max]; rfl

theorem coe_hat (a : ℝ) : max (1 - FloatOps.absf (F := Ideal) (φ := .f32) ((a : ℝ) : EReal)) 0 = ((hat a : ℝ) : EReal) := by
  rw [coe_absf, hat, EReal.coe_strictMono.monotone.map_max, EReal.coe_sub]; rfl

theorem coe_clip (b v : ℝ) : min (b : EReal) (max 0 (v : EReal)) = ((clip b v : ℝ) : EReal) := by
  rw [clip, EReal.coe_strictMono.monotone.map_min, EReal.coe_strictMono.monotone.map_max]; rfl

theorem coe_div (a b : ℝ) (hb : b ≠ 0) : Ideal.div (a : EReal) (b : EReal) = ((a / b : ℝ) : EReal) := by
  rw [Ideal.div_coe hb, ← EReal.coe_mul, mul_one_div]

theorem coe_sum {n : ℕ} (f : Fin n → ℝ) : ((∑ i, f i : ℝ) : EReal) = ∑ i, ((f i : ℝ) : EReal) := by
  induction n with
  | zero => simp
  | succ n ih => rw [Fin.sum_univ_succ, Fin.sum_univ_succ, EReal.coe_add, ih]

theorem toInt_small (n : ℕ) (h : n < 2 ^ 31) : (BitVec.ofNat 32 n).toInt = n := by
  have hn : (BitVec.ofNat 32 n).toNat = n := by rw [BitVec.toNat_ofNat]; exact Nat.mod_eq_of_lt (by omega)
  rw [BitVec.toInt_eq_toNat_of_lt (by omega), hn]

theorem coe_sitofp (n : ℕ) (h : n < 2 ^ 31) : FloatOps.sitofp (F := Ideal) .f32 (BitVec.ofNat 32 n) = (((n : ℝ)) : EReal) := by
  show (((BitVec.ofNat 32 n).toInt : ℝ) : EReal) = _
  rw [toInt_small n h]; simp

end Cert.Interp

end
-- ==== Proof.Value.Block.lean ====
module

public import proofs.«01_k».proof.Proof.Value.Scalar
public import proofs.«01_k».proof.Proof.Ideal.Out
public import Idealize.ShloMosaic.Lib.Pipeline.ValueKit

@[expose] public section

set_option maxRecDepth 16384

/-! The kernel's body at an index, over real inputs. -/

noncomputable section

namespace Cert.KernelIdeal.Body

open Cert.KernelIdeal Cert.KernelIdeal.Gen Cert.Interp
open Idealize.ShloMosaic Idealize.ShloMosaic.TcCoe

/-- The scratch: a grid row interpolated along the columns. -/
theorem rows_apply (X : Vec Ideal S1x16x96x16 .f32) (y : Fin 16) (j : Fin 96) (w : Fin 512) (f : ℕ → ℝ)
    (hX : ∀ x : Fin 16, X (ix4 0 y j x) = ((f x : ℝ) : EReal)) :
    k0_pay2 X (ix3 y j w) = ((∑ x ∈ Finset.range 16, f x * hat (x - clip 15 (pos w)) : ℝ) : EReal) := by
  pointwise [k0_pay2]
  have hw : w.val < 2 ^ 31 := by omega
  rw [Finset.sum_range, coe_sum]
  refine Finset.sum_congr rfl fun x _ => ?_
  rw [hX, coe_sitofp _ hw, coe_sitofp _ (by omega), c_half, c_15, c_32, ← EReal.coe_add, coe_div _ _ (by norm_num), ← EReal.coe_sub,
    coe_clip, ← EReal.coe_sub, coe_hat, ← EReal.coe_mul]
  rfl

/-- The height of a sub-block's row, clamped. -/
theorem uyV_apply (t : Fin 2) (s r : Fin 16) :
    uyV (F := Ideal) t s (ix2 r 0) = ((clip 15 (pos (256 * t + 16 * s + r)) : ℝ) : EReal) := by
  pointwise [uyV]
  have e : (Scalar.muli (Scalar.addi (Scalar.muli (BitVec.ofNat 32 t) 16#32) (BitVec.ofNat 32 s)) 16#32).toInt
      = ((256 * t + 16 * s : ℕ) : ℤ) := by
    revert t s; decide +kernel
  rw [e, coe_sitofp _ (by omega), c_half, c_15, c_32, ← EReal.coe_add, ← EReal.coe_add, coe_div _ _ (by norm_num), ← EReal.coe_sub,
    coe_clip, pos]
  congr 3
  push_cast
  ring

theorem hiV_apply (t : Fin 2) (s r : Fin 16) :
    hiV (F := Ideal) t s (ix2 r 0) = ((hiWeight (256 * t + 16 * s + r) : ℝ) : EReal) := by
  pointwise [hiV]
  rw [uyV_apply, low_toInt, ← EReal.coe_sub, show (1 : EReal) = ((1 : ℝ) : EReal) from rfl, coe_clip, hiWeight, lowRow,
    show (256 * t.val + 16 * s.val + r.val) / 16 = 16 * t.val + s.val by omega]
  simp only [Int.cast_natCast]

theorem loV_apply (t : Fin 2) (s r : Fin 16) :
    loV (F := Ideal) t s (ix2 r 0) = ((1 - hiWeight (256 * t + 16 * s + r) : ℝ) : EReal) := by
  pointwise [loV]
  rw [hiV_apply, EReal.coe_sub]
  rfl

theorem depthWord_val : ∀ k : Fin 8, Ideal.ofBits .f32 (depthWord k) = ((k.val : ℝ) : EReal) := by
  intro k
  fin_cases k
  · exact Ideal.ofBits_zero_f32.trans (by simp)
  · exact Ideal.ofBits_one_f32.trans (by simp)
  · exact c_2.trans (by simp)
  · exact c_3.trans (by simp)
  · exact c_4.trans (by simp)
  · exact c_5.trans (by simp)
  · exact c_6.trans (by simp)
  · exact c_7.trans (by simp)

theorem depthV_apply (u : Vec Ideal S1x16x512 .f32) (k : Fin 8) (r : Fin 16) (w : Fin 512) (g : ℝ)
    (hu : u (ix3 0 r w) = (g : EReal)) : depthV u k (ix2 r w) = ((hat (clip 7 (g * 8 - 1 / 2) - k.val) : ℝ) : EReal) := by
  pointwise [depthV, uzV]
  rw [hu, c_half, c_7, c_8, ← EReal.coe_mul, ← EReal.coe_sub, coe_clip, depthWord_val, ← EReal.coe_sub, coe_hat]

/-- The reads of one sub-block at one column of the image, as real numbers. -/
structure Reads (R : Bool → Fin 96 → Vec Ideal S1x1x512 .f32) (u : Vec Ideal S1x16x512 .f32) (p : Fin 3 → Vec Ideal S1x1x16x512 .f32)
    (c : Fin 3) (r : Fin 16) (w : Fin 512) (A : ℕ → ℕ → ℕ → ℕ → ℝ) (q : ℕ → ℝ) (g : ℝ) (h : ℕ) : Prop where
  rows : ∀ (hi : Bool) (a : Fin 4) (k : Fin 8), R hi (col c a k) (ix3 0 0 w) = ((lanes (A a) (pos w) k (lowRow h + hi.toNat) : ℝ) : EReal)
  guide : u (ix3 0 r w) = (g : EReal)
  image : ∀ a : Fin 3, p a (ix4 0 0 r w) = ((q a : ℝ) : EReal)

variable {R : Bool → Fin 96 → Vec Ideal S1x1x512 .f32} {u : Vec Ideal S1x16x512 .f32} {p : Fin 3 → Vec Ideal S1x1x16x512 .f32}
  {c : Fin 3} {r : Fin 16} {w : Fin 512} {A : ℕ → ℕ → ℕ → ℕ → ℝ} {q : ℕ → ℝ} {g : ℝ}

theorem mixV_apply {h : ℕ} (H : Reads R u p c r w A q g h) (hi : Bool) (k : Fin 8) :
    mixV R p hi c k (ix2 r w) = ((lanes (A 3) (pos w) k (lowRow h + hi.toNat) + lanes (A 0) (pos w) k (lowRow h + hi.toNat) * q 0
      + lanes (A 1) (pos w) k (lowRow h + hi.toNat) * q 1 + lanes (A 2) (pos w) k (lowRow h + hi.toNat) * q 2 : ℝ) : EReal) := by
  pointwise [mixV, rowV]
  simp only [H.rows, H.image, ← EReal.coe_mul, ← EReal.coe_add]
  rfl

theorem termV_apply {t : Fin 2} {s : Fin 16} (H : Reads R u p c r w A q g (256 * t + 16 * s + r)) (k : Fin 8) :
    termV t s R u p c k (ix2 r w) = ((depthTerm A q (pos w) (g * 8 - 1 / 2) (256 * t + 16 * s + r) k : ℝ) : EReal) := by
  pointwise [termV]
  rw [depthV_apply _ _ _ _ _ H.guide, loV_apply, hiV_apply, mixV_apply H, mixV_apply H]
  simp only [← EReal.coe_mul, ← EReal.coe_add]
  rfl

theorem blockV_apply {t : Fin 2} {s : Fin 16} (H : Reads R u p c r w A q g (256 * t + 16 * s + r)) :
    blockV t s R u p c (ix4 0 0 r w)
      = ((∑ k ∈ Finset.range 8, depthTerm A q (pos w) (g * 8 - 1 / 2) (256 * t + 16 * s + r) k : ℝ) : EReal) := by
  pointwise [blockV]
  simp only [termV_apply H, ← EReal.coe_add]
  simp only [Finset.sum_range_succ, Finset.sum_range_zero, zero_add]
  rfl

/-- The body's block at an index. -/
theorem outV_apply (i : grid0.Coords) (x1 : Vec Ideal S1x256x512 .f32) (x2 : Vec Ideal S1x3x256x512 .f32) (xs : Vec Ideal S16x96x512 .f32)
    (c : Fin 3) (r : Fin 256) (w : Fin 512) (A : ℕ → ℕ → ℕ → ℕ → ℝ) (q : ℕ → ℝ) (g : ℝ)
    (hs : ∀ (y : Fin 16) (a : Fin 4) (k : Fin 8), xs (ix3 y (col c a k) w) = ((lanes (A a) (pos w) k y : ℝ) : EReal))
    (hg : x1 (ix3 0 r w) = (g : EReal)) (hq : ∀ a : Fin 3, x2 (ix4 0 a r w) = ((q a : ℝ) : EReal)) :
    outV i x1 x2 xs (ix4 0 c r w)
      = ((∑ k ∈ Finset.range 8, depthTerm A q (pos w) (g * 8 - 1 / 2) (256 * (i 1).val + r) k : ℝ) : EReal) := by
  have hr : 16 * (r.val / 16) + r.val % 16 = r.val := Nat.div_add_mod _ _
  let s : Fin 16 := ⟨r.val / 16, by omega⟩
  let r' : Fin 16 := ⟨r.val % 16, Nat.mod_lt _ (by decide)⟩
  have ew : within (ix4 0 c r w : S1x3x256x512.Idx) = ix4 0 0 r' w := by
    funext a; fin_cases a <;> rfl
  rw [outV_of i x1 x2 xs (ix4 0 c r w) s c (ix4 0 0 r' w) rfl rfl ew]
  have eh : 256 * (i 1).val + r.val = 256 * (i 1).val + 16 * s.val + r'.val := by show _ = _ + 16 * (r.val / 16) + r.val % 16; omega
  rw [eh]
  refine blockV_apply (t := i 1) (s := s) ⟨fun hi a k => ?_, ?_, fun a => ?_⟩
  · pointwise [rowOff]
    rw [hs]
    dsimp only
    rw [rowWord_toNat (i 1) s hi, lowRow, show (256 * (i 1).val + 16 * s.val + r'.val) / 16 = 16 * (i 1).val + s.val by omega]
  · pointwise []
    rw [show (⟨16 * s.val + r'.val, by omega⟩ : Fin 256) = r from Fin.ext hr]
    exact hg
  · pointwise []
    rw [show (⟨16 * s.val + r'.val, by omega⟩ : Fin 256) = r from Fin.ext hr]
    exact hq a

end Cert.KernelIdeal.Body

end
-- ==== Proof.Math.Slice.lean ====
module

public import proofs.«01_k».proof.Proof.Math.Trilinear

@[expose] public section

/-! The result of bilateral slicing as a real number: the affine combination of the image with the interpolated coefficients. -/

noncomputable section

namespace Cert.Interp

/-- Three arrays of real numbers: the grid, the guide and the image. -/
structure Arrays where
  grid : ℕ → ℕ → ℕ → ℕ → ℕ → ℝ
  guide : ℕ → ℕ → ℕ → ℝ
  image : ℕ → ℕ → ℕ → ℕ → ℝ

/-- Coefficient `a` of colour `c` in image `n`: the grid's values by depth, row and column. -/
def Arrays.coeff (D : Arrays) (n c a k y x : ℕ) : ℝ := D.grid n (4 * c + a) k y x

/-- The depth of a pixel among the grid's depths. -/
def Arrays.depth (D : Arrays) (n h w : ℕ) : ℝ := D.guide n h w * 8 - 1 / 2

/-- The interpolated coefficient `a` of colour `c` at a pixel. -/
def Arrays.sliced (D : Arrays) (n c a h w : ℕ) : ℝ := corners (D.coeff n c a) (pos w) (pos h) (D.depth n h w)

/-- The result at a pixel. -/
def Arrays.result (D : Arrays) (n c h w : ℕ) : ℝ :=
  (D.image n 0 h w * D.sliced n c 0 h w + D.image n 1 h w * D.sliced n c 1 h w + D.image n 2 h w * D.sliced n c 2 h w)
    + D.sliced n c 3 h w

theorem Arrays.result_eq (D : Arrays) (n c h w : ℕ) (hh : h < 512) :
    ∑ k ∈ Finset.range 8, depthTerm (D.coeff n c) (fun i => D.image n i h w) (pos w) (D.depth n h w) h k = D.result n c h w :=
  affine_eq _ _ _ _ h hh

end Cert.Interp

end
-- ==== Proof.Value.Final.lean ====
module

public import proofs.«01_k».proof.Proof.Value.Block
public import proofs.«01_k».proof.Proof.Math.Slice
public import proofs.«01_k».proof.Proof.Ideal.Frame
public import Idealize.ShloMosaic.Lib.Pipeline.ValueKit

@[expose] public section

set_option maxRecDepth 16384

/-! The kernel's result array after the run, over real arguments. -/

noncomputable section

namespace Cert.KernelIdeal.Body

open Cert.KernelIdeal Cert.KernelIdeal.Gen Cert.Interp
open Idealize.ShloMosaic Idealize.ShloMosaic.TcCoe Idealize.SL.Sem
open Idealize.ShloMosaic.Pipeline (Dat)

variable (m : (ℓ : Loc nD τ sig) → Buf (Elt Ideal) ℓ)

/-- The arguments on a device are the real arrays `D`. -/
structure Holds (c : Dev nD) (D : Arrays) : Prop where
  grid : ∀ (n : Fin 4) (j : Fin 12) (k : Fin 8) (y x : Fin 16),
    m ((c : Thread nD τ).loc main_arg0) (ix5 n j k y x) = ((D.grid n j k y x : ℝ) : EReal)
  guide : ∀ (n : Fin 4) (h w : Fin 512), m ((c : Thread nD τ).loc main_arg1) (ix3 n h w) = ((D.guide n h w : ℝ) : EReal)
  image : ∀ (n : Fin 4) (i : Fin 3) (h w : Fin 512),
    m ((c : Thread nD τ).loc main_arg2) (ix4 n i h w) = ((D.image n i h w : ℝ) : EReal)

/-- The windows' block indices. -/
theorem idx : ∀ t : Fin cfg0.N, win0_0.index t = ![t.val / 2, 0, 0, 0] ∧ win0_1.index t = ![t.val / 2, t.val % 2, 0]
    ∧ win0_2.index t = ![t.val / 2, 0, t.val % 2, 0] ∧ win0_3.index t = ![t.val / 2, 0, t.val % 2, 0] :=
  (by decide +kernel : ∀ t : Fin grid0.N, _)

theorem lt8 (t : Fin cfg0.N) : t.val < 8 := Nat.lt_of_lt_of_eq t.isLt N_0

/-- The image of a point. -/
def img (t : Fin cfg0.N) : Fin 4 := ⟨t.val / 2, by have := lt8 t; omega⟩

/-- The image row of a block's row. -/
def hgt (t : Fin cfg0.N) (r : Fin 256) : Fin 512 := ⟨256 * (t.val % 2) + r.val, by omega⟩

theorem iblk1 (c : Dev nD) (t : Fin cfg0.N) (r : Fin 256) (w : Fin 512) :
    iblk m c 1 t (ix3 0 r w) = m ((c : Thread nD τ).loc main_arg1) (ix3 (img t) (hgt t r) w) := by
  blk_ext [iblk, V_main_arg1 m c, idx t, img, hgt]

theorem iblk2 (c : Dev nD) (t : Fin cfg0.N) (a : Fin 3) (r : Fin 256) (w : Fin 512) :
    iblk m c 2 t (ix4 0 a r w) = m ((c : Thread nD τ).loc main_arg2) (ix4 (img t) a (hgt t r) w) := by
  blk_ext [iblk, V_main_arg2 m c, idx t, img, hgt]

theorem iblk0 (c : Dev nD) (t : Fin cfg0.N) (y : Fin 16) (j : Fin 12) (k : Fin 8) (x : Fin 16) :
    iblk m c 0 t (ix4 0 y (⟨8 * j.val + k.val, by omega⟩ : Fin 96) x) = m ((c : Thread nD τ).loc main_arg0) (ix5 (img t) j k y x) := by
  blk_ext! [iblk, V, idx t, img]

/-- The scratch at a point, at an index. -/
theorem rows_val (c : Dev nD) (D : Arrays) (H : Holds m c D) (t : Fin cfg0.N) (q : Fin 3) (y : Fin 16) (a : Fin 4) (k : Fin 8) (w : Fin 512) :
    rows m c t.val t.isLt (ix3 y (col q a k) w) = ((lanes (D.coeff (img t) q a) (pos w) k y : ℝ) : EReal) := by
  have e : col q a k = (⟨8 * (⟨4 * q.val + a.val, by omega⟩ : Fin 12).val + k.val, by dsimp only; omega⟩ : Fin 96) := by
    apply Fin.ext
    show 32 * q.val + 8 * a.val + k.val = 8 * (4 * q.val + a.val) + k.val
    omega
  have ei : img (head t.val t.isLt) = img t := by
    apply Fin.ext
    show (t.val - t.val % 2) / 2 = t.val / 2
    omega
  unfold rows
  rw [e, rows_apply _ y _ w (fun x => D.coeff (img t) q a k y x) fun x => by rw [iblk0, H.grid, ei]; rfl]
  rfl

/-- What a point leaves in the output's block, at an index. -/
theorem block_val (c : Dev nD) (D : Arrays) (H : Holds m c D) (t : Fin cfg0.N) (q : Fin 3) (r : Fin 256) (w : Fin 512) :
    outV (grid0.coords t) (iblk m c 1 t) (iblk m c 2 t) (rows m c t.val t.isLt) (ix4 0 q r w)
      = ((D.result (img t) q (hgt t r) w : ℝ) : EReal) := by
  rw [outV_apply (grid0.coords t) _ _ _ q r w (D.coeff (img t) q) (fun i => D.image (img t) i (hgt t r) w) (D.guide (img t) (hgt t r) w)
    (fun y a k => rows_val m c D H t q y a k w) (by rw [iblk1, H.guide]) (fun a => by rw [iblk2, H.image])]
  have e1 : (grid0.coords t 1).val = t.val / 1 % 2 := Pipeline.Grid.coords_val t 1 (by decide) rfl
  rw [e1, Nat.div_one, ← D.result_eq _ _ _ _ (hgt t r).isLt]
  rfl

/-- The result array. -/
def result (D : Arrays) : FVec Ideal S4x3x512x512 .f32 := fun i => ((D.result (i 0) (i 1) (i 2) (i 3) : ℝ) : EReal)

theorem final (c : Dev nD) (D : Arrays) (H : Holds m c D) : (dats m 0 c).arrAt 3 (cfgs 0).N = result D := by
  refine (dats m 0 c).arrAt_eq_of_covers 3 _ (by decide +kernel) fun t _ y => ?_
  blk_simp
  rw [after3]
  obtain ⟨a, q, r, w, rfl⟩ : ∃ (a : Fin 1) (q : Fin 3) (r : Fin 256) (w : Fin 512), y = (ix4 a q r w : S1x3x256x512.Idx) :=
    ⟨y 0, y 1, y 2, y 3, eq_ix4 (n0 := 1) (n1 := 3) (n2 := 256) (n3 := 512) y⟩
  obtain rfl : a = 0 := Subsingleton.elim _ _
  refine (block_val m c D H t q r w).trans ?_
  unfold result
  have e0 : ((win0_3.blk t).view.emb (ix4 0 q r w : S1x3x256x512.Idx) 0).val = t.val / 2 := by blk_simp [idx t]; rfl
  have e1 : ((win0_3.blk t).view.emb (ix4 0 q r w : S1x3x256x512.Idx) 1).val = q.val := by blk_simp [idx t]
  have e2 : ((win0_3.blk t).view.emb (ix4 0 q r w : S1x3x256x512.Idx) 2).val = 256 * (t.val % 2) + r.val := by
    blk_simp [idx t]; omega
  have e3 : ((win0_3.blk t).view.emb (ix4 0 q r w : S1x3x256x512.Idx) 3).val = w.val := by blk_simp [idx t]
  rw [e0, e1, e2, e3]
  rfl

/-- The kernel's run over real arguments. -/
theorem run (D : Dev nD → Arrays) (H : ∀ c, Holds m c (D c)) (ρ : Dev nD → PrngReg) :
    θ_run defs (onTc (τ := τ) (main (F := Ideal))) ⟨m, fun _ => 0, ρ⟩ fun r => ∀ c : Dev nD,
      r.2.mem ((c : Thread nD τ).loc main_v2) = result (D c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c (D c) (H c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (post_run m ρ)

end Cert.KernelIdeal.Body

end
-- ==== Proof.Ref.Corner.lean ====
module

public import proofs.«01_k».proof.Proof.Gen.ReferenceIdeal.Read
public import Idealize.ShloMosaic.Lib.Tactic

@[expose] public section

set_option maxRecDepth 16384

/-! The reference's program with its eight corners folded: each of them is the same function of the three steps. -/

noncomputable section

namespace Cert.ReferenceIdeal.Body

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- A constant at every pixel. -/
def fill (w : BitVec 32) : FVec F S4x512x512 .f32 := broadcastInDim S4x512x512 ![] bcast_S_S4x512x512 (constant (F := F) S_ .f32 w)

/-- An integer constant at every pixel. -/
def fillI (w : BitVec 32) : IVec S4x512x512 32 := broadcastInDim S4x512x512 ![] bcast_S_S4x512x512 (constantI S_ 32 w)

/-- An integer constant, converted, at every pixel. -/
def fillC (w : BitVec 32) : FVec F S4x512x512 .f32 := broadcastInDim S4x512x512 ![] bcast_S_S4x512x512 (sitofp (F := F) .f32 (constantI S_ 32 w))

/-- The node a step `d` above the floors `v`, clamped between 0 and `n`. -/
def nodeV (n d : BitVec 32) (v : FVec F S4x512x512 .f32) : IVec S4x512x512 32 := fptosi 32 (minimumf (fillC n) (maximumf (fillC 0#32) (addf v (fill d))))

/-- The weight of that node, from the coordinates `g`. -/
def weightV (d : BitVec 32) (v g : FVec F S4x512x512 .f32) : FVec F S4x512x512 .f32 :=
  maximumf (subf (fill 0x3F800000#32) (Host.absf (subf (addf (addf v (fill d)) (fill 0x3F000000#32)) g))) (fill 0x00000000#32)

/-- An index with the extent `e` added where it is negative. -/
def wrapV (e : BitVec 32) (i : IVec S4x512x512 32) : IVec S4x512x512 32 := select (cmpi .slt i (fillI 0#32)) (addi i (fillI e)) i

/-- The three indices of a pixel's node. -/
def placeV (z y x : IVec S4x512x512 32) : IVec S4x512x512x3 32 :=
  concatenate S4x512x512x3 3
    [⟨S4x512x512x1, (broadcastInDim S4x512x512x1 ![0, 1, 2] bcast_S4x512x512_S4x512x512x1_0_1_2 (wrapV 8#32 z))⟩,
     ⟨S4x512x512x1, (broadcastInDim S4x512x512x1 ![0, 1, 2] bcast_S4x512x512_S4x512x512x1_0_1_2 (wrapV 16#32 y))⟩,
     ⟨S4x512x512x1, (broadcastInDim S4x512x512x1 ![0, 1, 2] bcast_S4x512x512_S4x512x512x1_0_1_2 (wrapV 16#32 x))⟩]
    concatenates_S4x512x512x1_S4x512x512x1_S4x512x512x1_S4x512x512x3_d3

/-- The coefficients at a corner. -/
def pickV (x0 : FVec F S4x12x8x16x16 .f32) (x1 : FVec F S4x512x512 .f32) (dx dy dz : BitVec 32) : FVec F S4x12x512x512 .f32 :=
  Host.gather gather_S4x12x8x16x16_S4x512x512x3_S4x12x512x512_1_234_0_0_234_3_112111 x0
    (placeV (nodeV (F := F) 7#32 dz (val_main_v28 x1)) (nodeV (F := F) 15#32 dy (val_main_v25 (F := F))) (nodeV (F := F) 15#32 dx (val_main_v22 (F := F))))

/-- The weight of a corner. -/
def massV (x1 : FVec F S4x512x512 .f32) (dx dy dz : BitVec 32) : FVec F S4x512x512 .f32 :=
  mulf (mulf (weightV dx (val_main_v22 (F := F)) (val_main_v15 (F := F))) (weightV dy (val_main_v25 (F := F)) (val_main_v17 (F := F)))) (weightV dz (val_main_v28 x1) (val_main_v19 x1))

/-- The contribution of a corner. -/
def cornerV (x0 : FVec F S4x12x8x16x16 .f32) (x1 : FVec F S4x512x512 .f32) (dx dy dz : BitVec 32) : FVec F S4x12x512x512 .f32 :=
  mulf (broadcastInDim S4x12x512x512 ![0, 1, 2, 3] bcast_S4x1x512x512_S4x12x512x512_0_1_2_3
      (broadcastInDim S4x1x512x512 ![0, 2, 3] bcast_S4x512x512_S4x1x512x512_0_2_3 (massV x1 dx dy dz)))
    (pickV x0 x1 dx dy dz)

/-- The interpolated coefficients. -/
def slicedV (x0 : FVec F S4x12x8x16x16 .f32) (x1 : FVec F S4x512x512 .f32) : FVec F S4x12x512x512 .f32 :=
  addf (addf (addf (addf (addf (addf (addf (addf val_main_v29
    (cornerV x0 x1 0x00000000#32 0x00000000#32 0x00000000#32)) (cornerV x0 x1 0x00000000#32 0x00000000#32 0x3F800000#32))
    (cornerV x0 x1 0x00000000#32 0x3F800000#32 0x00000000#32)) (cornerV x0 x1 0x00000000#32 0x3F800000#32 0x3F800000#32))
    (cornerV x0 x1 0x3F800000#32 0x00000000#32 0x00000000#32)) (cornerV x0 x1 0x3F800000#32 0x00000000#32 0x3F800000#32))
    (cornerV x0 x1 0x3F800000#32 0x3F800000#32 0x00000000#32)) (cornerV x0 x1 0x3F800000#32 0x3F800000#32 0x3F800000#32)

theorem sliced_eq (x0 : FVec F S4x12x8x16x16 .f32) (x1 : FVec F S4x512x512 .f32) : val_main_v573 x0 x1 = slicedV x0 x1 := by
  sl_kernel_rfl

end Cert.ReferenceIdeal.Body

end
-- ==== Proof.Value.RefCorner.lean ====
module

public import proofs.«01_k».proof.Proof.Ref.Corner
public import proofs.«01_k».proof.Proof.Value.Scalar
public import Idealize.ShloMosaic.Lib.Pipeline.ValueKit

@[expose] public section

set_option maxRecDepth 16384

/-! One corner of the reference at an index, over real inputs. -/

noncomputable section

namespace Cert.ReferenceIdeal.Body

open Cert.ReferenceIdeal Cert.ReferenceIdeal.Gen Cert.ReferenceIdeal.Read Cert.Interp
open Idealize.ShloMosaic Idealize.ShloMosaic.TcCoe Idealize.SL.Sem Idealize.ShloMosaic.StableHlo

/-- The coordinates of a pixel. -/
theorem col_apply (n : Fin 4) (h w : Fin 512) : val_main_v15 (F := Ideal) (ix3 n h w) = ((pos w + 1 / 2 : ℝ) : EReal) := by
  pointwise [val_main_v15, val_main_v14, val_main_v6, val_main_v5, val_main_cst_1, val_main_v4, val_main_v3, val_main_cst_0,
    val_main_v2, val_main_v1, val_main_cst, val_main_v0]
  rw [coe_sitofp _ (by omega), c_half, c_16, c_512, ← EReal.coe_add, ← EReal.coe_mul, coe_div _ _ (by norm_num), pos]
  congr 1
  ring

theorem row_apply (n : Fin 4) (h w : Fin 512) : val_main_v17 (F := Ideal) (ix3 n h w) = ((pos h + 1 / 2 : ℝ) : EReal) := by
  pointwise [val_main_v17, val_main_v16, val_main_v13, val_main_v12, val_main_cst_4, val_main_v11, val_main_v10, val_main_cst_3,
    val_main_v9, val_main_v8, val_main_cst_2, val_main_v7]
  rw [coe_sitofp _ (by omega), c_half, c_16, c_512, ← EReal.coe_add, ← EReal.coe_mul, coe_div _ _ (by norm_num), pos]
  congr 1
  ring

theorem floorX_apply (n : Fin 4) (h w : Fin 512) : val_main_v22 (F := Ideal) (ix3 n h w) = (((⌊pos w⌋ : ℤ) : ℝ) : EReal) := by
  pointwise [val_main_v22, val_main_v21, val_main_v20, val_main_cst_6]
  rw [col_apply, c_half, ← EReal.coe_sub, Ideal.liftRound_coe, add_sub_cancel_right]

theorem floorY_apply (n : Fin 4) (h w : Fin 512) : val_main_v25 (F := Ideal) (ix3 n h w) = (((⌊pos h⌋ : ℤ) : ℝ) : EReal) := by
  pointwise [val_main_v25, val_main_v24, val_main_v23, val_main_cst_7]
  rw [row_apply, c_half, ← EReal.coe_sub, Ideal.liftRound_coe, add_sub_cancel_right]

theorem depth_apply (x1 : FVec Ideal S4x512x512 .f32) (n : Fin 4) (h w : Fin 512) (g : ℝ) (hg : x1 (ix3 n h w) = (g : EReal)) :
    val_main_v19 (F := Ideal) x1 (ix3 n h w) = ((g * 8 - 1 / 2 + 1 / 2 : ℝ) : EReal) := by
  pointwise [val_main_v19, val_main_v18, val_main_cst_5]
  rw [hg, c_8, ← EReal.coe_mul, sub_add_cancel]

theorem floorZ_apply (x1 : FVec Ideal S4x512x512 .f32) (n : Fin 4) (h w : Fin 512) (g : ℝ) (hg : x1 (ix3 n h w) = (g : EReal)) :
    val_main_v28 (F := Ideal) x1 (ix3 n h w) = (((⌊g * 8 - 1 / 2⌋ : ℤ) : ℝ) : EReal) := by
  pointwise [val_main_v28, val_main_v27, val_main_v26, val_main_cst_8]
  rw [depth_apply x1 n h w g hg, c_half, ← EReal.coe_sub, Ideal.liftRound_coe, add_sub_cancel_right]

theorem nodeV_apply (N : ℕ) (dw : BitVec 32) (v : FVec Ideal S4x512x512 .f32) (j : S4x512x512.Idx) (z d : ℤ)
    (hv : v j = ((z : ℝ) : EReal)) (hd : Ideal.ofBits .f32 dw = ((d : ℝ) : EReal)) (hN : N ≤ 15) :
    nodeV (BitVec.ofNat 32 N) dw v j = BitVec.ofNat 32 (node N (z + d)) := by
  pointwise [nodeV, fill, fillC]
  have hc : clip N ((z + d : ℤ) : ℝ) = ((node N (z + d) : ℕ) : ℝ) := by
    have e : ((node N (z + d) : ℕ) : ℤ) = min (N : ℤ) (max 0 (z + d)) := by unfold node; omega
    have e' : ((node N (z + d) : ℕ) : ℝ) = ((((node N (z + d) : ℕ) : ℤ)) : ℝ) := (Int.cast_natCast _).symm
    rw [e', e, clip]; push_cast; rfl
  have hn := node_le N (z + d)
  rw [hv, hd, coe_sitofp _ (by omega), coe_sitofp 0 (by omega), ← EReal.coe_add, ← Int.cast_add, Nat.cast_zero, EReal.coe_zero, coe_clip, hc]
  show Ideal.fptosi 32 _ = _
  rw [Ideal.fptosi, Ideal.toIntClamped_coe, if_pos (Nat.cast_nonneg _), Int.floor_natCast]
  rw [show max (-((2 ^ (32 - 1) : ℕ) : ℤ)) (min (((2 ^ (32 - 1) : ℕ) : ℤ) - 1) ((node N (z + d) : ℕ) : ℤ)) = ((node N (z + d) : ℕ) : ℤ) by
    norm_num; omega]
  exact BitVec.ofInt_natCast _ _

theorem weightV_apply (dw : BitVec 32) (v g : FVec Ideal S4x512x512 .f32) (j : S4x512x512.Idx) (x : ℝ) (d : ℤ)
    (hv : v j = (((⌊x⌋ : ℤ) : ℝ) : EReal)) (hg : g j = ((x + 1 / 2 : ℝ) : EReal)) (hd : Ideal.ofBits .f32 dw = ((d : ℝ) : EReal)) :
    weightV dw v g j = ((weight x d : ℝ) : EReal) := by
  pointwise [weightV, fill]
  rw [hv, hg, hd, c_half, ← EReal.coe_add, ← EReal.coe_add, ← EReal.coe_sub, coe_hat, weight]
  congr 2
  ring

theorem wrapV_apply (e : BitVec 32) (v : IVec S4x512x512 32) (j : S4x512x512.Idx) (k : ℕ) (hk : k ≤ 15) (hv : v j = BitVec.ofNat 32 k) :
    wrapV e v j = BitVec.ofNat 32 k := by
  pointwise [wrapV, fillI]
  have hlt : IntOp.cmpi .slt (BitVec.ofNat 32 k) 0#32 = 0#1 := by interval_cases k <;> rfl
  rw [hv, hlt]
  rfl

theorem placeV_apply (z y x : IVec S4x512x512 32) (n : Fin 4) (h w : Fin 512) :
    placeV z y x (ix4 n h w 0) = wrapV 8#32 z (ix3 n h w) ∧ placeV z y x (ix4 n h w 1) = wrapV 16#32 y (ix3 n h w)
      ∧ placeV z y x (ix4 n h w 2) = wrapV 16#32 x (ix3 n h w) := by
  refine ⟨?_, ?_, ?_⟩
  · pointwise [placeV]
  · pointwise [placeV]
  · pointwise [placeV]

theorem gather_apply (x0 : FVec Ideal S4x12x8x16x16 .f32) (p : IVec S4x512x512x3 32) (n : Fin 4) (c : Fin 12) (h w : Fin 512) :
    Host.gather gather_S4x12x8x16x16_S4x512x512x3_S4x12x512x512_1_234_0_0_234_3_112111 x0 p (ix4 n c h w)
      = x0 (ix5 n c (⟨min (p (ix4 n h w 0)).toInt.toNat 7, by omega⟩ : Fin 8) (⟨min (p (ix4 n h w 1)).toInt.toNat 15, by omega⟩ : Fin 16)
        (⟨min (p (ix4 n h w 2)).toInt.toNat 15, by omega⟩ : Fin 16)) := by
  unfold Host.gather
  congr 1
  funext a
  refine Fin.ext ?_
  let d := gather_S4x12x8x16x16_S4x512x512x3_S4x12x512x512_1_234_0_0_234_3_112111
  have hs (e : Fin 3) : d.siIdx (ix4 n c h w : S4x12x512x512.Idx) e = (ix4 n h w e : S4x512x512x3.Idx) := by
    funext b; refine Fin.ext ?_
    match b with
    | ⟨0, _⟩ => rfl
    | ⟨1, _⟩ => rfl
    | ⟨2, _⟩ => rfl
    | ⟨3, _⟩ => rfl
  let J : S4x12x512x512.Idx := ix4 n c h w
  have hb (a : Fin 5) (ha : a ≠ 0) : d.batchCoord J a = 0 :=
    d.batchCoord_eq_zero _ _ fun h => ha (List.mem_singleton.1 h)
  have ho (a : Fin 5) (ha : a ≠ 1) : d.offCoord J a = 0 :=
    d.offCoord_eq_zero _ _ fun h => by
      have h2 := (d.mem_sKept a).1 h
      revert ha h2; revert a; decide
  show d.start J p a + d.batchCoord J a + d.offCoord J a = _
  match a with
  | ⟨0, _⟩ =>
    show d.start J p (0 : Fin 5) + d.batchCoord J (0 : Fin 5) + d.offCoord J (0 : Fin 5) = _
    rw [d.start_batching _ _ 0 (List.mem_singleton.2 rfl), ho 0 (by decide)]
    unfold GatherDims.batchCoord
    rw [dif_pos (show (0 : Fin 5) ∈ d.operandBatchingDims from List.mem_singleton.2 rfl), Nat.zero_add]
    rfl
  | ⟨1, _⟩ =>
    show d.start J p (1 : Fin 5) + d.batchCoord J (1 : Fin 5) + d.offCoord J (1 : Fin 5) = _
    rw [hb 1 (by decide)]
    unfold GatherDims.start GatherDims.offCoord
    rw [dif_neg (by decide), dif_pos ((d.mem_sKept 1).2 (by decide)), Nat.zero_add]
    rfl
  | ⟨2, _⟩ =>
    show d.start J p (2 : Fin 5) + d.batchCoord J (2 : Fin 5) + d.offCoord J (2 : Fin 5) = _
    rw [hb 2 (by decide), ho 2 (by decide)]
    unfold GatherDims.start
    rw [dif_pos (by decide)]
    exact congrArg (fun i => min (p i).toInt.toNat 7) (hs 0)
  | ⟨3, _⟩ =>
    show d.start J p (3 : Fin 5) + d.batchCoord J (3 : Fin 5) + d.offCoord J (3 : Fin 5) = _
    rw [hb 3 (by decide), ho 3 (by decide)]
    unfold GatherDims.start
    rw [dif_pos (by decide)]
    exact congrArg (fun i => min (p i).toInt.toNat 15) (hs 1)
  | ⟨4, _⟩ =>
    show d.start J p (4 : Fin 5) + d.batchCoord J (4 : Fin 5) + d.offCoord J (4 : Fin 5) = _
    rw [hb 4 (by decide), ho 4 (by decide)]
    unfold GatherDims.start
    rw [dif_pos (by decide)]
    exact congrArg (fun i => min (p i).toInt.toNat 15) (hs 2)

theorem pickV_apply (x0 : FVec Ideal S4x12x8x16x16 .f32) (x1 : FVec Ideal S4x512x512 .f32) (f : ℕ → ℕ → ℕ → ℝ) (g : ℝ)
    (wx wy wz : BitVec 32) (dx dy dz : ℤ) (hx : Ideal.ofBits .f32 wx = ((dx : ℝ) : EReal)) (hy : Ideal.ofBits .f32 wy = ((dy : ℝ) : EReal))
    (hz : Ideal.ofBits .f32 wz = ((dz : ℝ) : EReal)) (n : Fin 4) (c : Fin 12) (h w : Fin 512)
    (hf : ∀ (k : Fin 8) (y x : Fin 16), x0 (ix5 n c k y x) = ((f k y x : ℝ) : EReal)) (hg : x1 (ix3 n h w) = (g : EReal)) :
    pickV x0 x1 wx wy wz (ix4 n c h w)
      = ((f (node 7 (⌊g * 8 - 1 / 2⌋ + dz)) (node 15 (⌊pos h⌋ + dy)) (node 15 (⌊pos w⌋ + dx)) : ℝ) : EReal) := by
  have nz := node_le 7 (⌊g * 8 - 1 / 2⌋ + dz)
  have ny := node_le 15 (⌊pos h⌋ + dy)
  have nx := node_le 15 (⌊pos w⌋ + dx)
  have ez := wrapV_apply 8#32 _ _ _ (by omega) (nodeV_apply 7 wz _ _ _ dz (floorZ_apply x1 n h w g hg) hz (by decide))
  have ey := wrapV_apply 16#32 _ _ _ (by omega) (nodeV_apply 15 wy _ _ _ dy (floorY_apply n h w) hy (by decide))
  have ex := wrapV_apply 16#32 _ _ _ (by omega) (nodeV_apply 15 wx _ _ _ dx (floorX_apply n h w) hx (by decide))
  have toNat (k b : ℕ) (hk : k ≤ b) (hb : b ≤ 15) : min (BitVec.ofNat 32 k).toInt.toNat b = k := by
    rw [toInt_small k (by omega), Int.toNat_natCast]; omega
  unfold pickV
  rw [gather_apply, hf]
  dsimp only
  rw [(placeV_apply _ _ _ n h w).1, (placeV_apply _ _ _ n h w).2.1, (placeV_apply _ _ _ n h w).2.2, ez, ey, ex,
    toNat _ 7 nz (by decide), toNat _ 15 ny le_rfl, toNat _ 15 nx le_rfl]

/-- The contribution of a corner at an index. -/
theorem cornerV_apply (x0 : FVec Ideal S4x12x8x16x16 .f32) (x1 : FVec Ideal S4x512x512 .f32) (f : ℕ → ℕ → ℕ → ℝ) (g : ℝ)
    (wx wy wz : BitVec 32) (dx dy dz : ℤ) (hx : Ideal.ofBits .f32 wx = ((dx : ℝ) : EReal)) (hy : Ideal.ofBits .f32 wy = ((dy : ℝ) : EReal))
    (hz : Ideal.ofBits .f32 wz = ((dz : ℝ) : EReal)) (n : Fin 4) (c : Fin 12) (h w : Fin 512)
    (hf : ∀ (k : Fin 8) (y x : Fin 16), x0 (ix5 n c k y x) = ((f k y x : ℝ) : EReal)) (hg : x1 (ix3 n h w) = (g : EReal)) :
    cornerV x0 x1 wx wy wz (ix4 n c h w) = ((corner f (pos w) (pos h) (g * 8 - 1 / 2) dx dy dz : ℝ) : EReal) := by
  pointwise [cornerV, massV]
  rw [weightV_apply wx _ _ _ (pos w) dx (floorX_apply n h w) (col_apply n h w) hx,
    weightV_apply wy _ _ _ (pos h) dy (floorY_apply n h w) (row_apply n h w) hy,
    weightV_apply wz _ _ _ (g * 8 - 1 / 2) dz (floorZ_apply x1 n h w g hg) (depth_apply x1 n h w g hg) hz,
    pickV_apply x0 x1 f g wx wy wz dx dy dz hx hy hz n c h w hf hg, ← EReal.coe_mul, ← EReal.coe_mul, ← EReal.coe_mul]
  rfl

/-- The interpolated coefficients at an index. -/
theorem sliced_apply (x0 : FVec Ideal S4x12x8x16x16 .f32) (x1 : FVec Ideal S4x512x512 .f32) (f : ℕ → ℕ → ℕ → ℝ) (g : ℝ)
    (n : Fin 4) (c : Fin 12) (h w : Fin 512)
    (hf : ∀ (k : Fin 8) (y x : Fin 16), x0 (ix5 n c k y x) = ((f k y x : ℝ) : EReal)) (hg : x1 (ix3 n h w) = (g : EReal)) :
    val_main_v573 (F := Ideal) x0 x1 (ix4 n c h w) = ((corners f (pos w) (pos h) (g * 8 - 1 / 2) : ℝ) : EReal) := by
  have c0 : Ideal.ofBits .f32 0x00000000#32 = (((0 : ℤ) : ℝ) : EReal) := Ideal.ofBits_zero_f32.trans (by simp)
  have c1 : Ideal.ofBits .f32 0x3F800000#32 = (((1 : ℤ) : ℝ) : EReal) := Ideal.ofBits_one_f32.trans (by simp)
  have e (wx wy wz : BitVec 32) (dx dy dz : ℤ) (hx hy hz) := cornerV_apply x0 x1 f g wx wy wz dx dy dz hx hy hz n c h w hf hg
  rw [sliced_eq]
  pointwise [slicedV, val_main_v29, val_main_cst_9]
  rw [e _ _ _ 0 0 0 c0 c0 c0, e _ _ _ 0 0 1 c0 c0 c1, e _ _ _ 0 1 0 c0 c1 c0, e _ _ _ 0 1 1 c0 c1 c1,
    e _ _ _ 1 0 0 c1 c0 c0, e _ _ _ 1 0 1 c1 c0 c1, e _ _ _ 1 1 0 c1 c1 c0, e _ _ _ 1 1 1 c1 c1 c1]
  simp only [corners, EReal.coe_add, EReal.coe_zero, zero_add]

end Cert.ReferenceIdeal.Body

end
-- ==== Proof.Value.RefFinal.lean ====
module

public import proofs.«01_k».proof.Proof.Value.RefCorner
public import proofs.«01_k».proof.Proof.Math.Slice
public import proofs.«01_k».proof.Proof.Gen.ReferenceIdeal.Run

@[expose] public section

/-! The reference's result over real arguments, and its run. -/

noncomputable section

namespace Cert.ReferenceIdeal.Body

open Cert.ReferenceIdeal Cert.ReferenceIdeal.Gen Cert.ReferenceIdeal.Read Cert.Interp
open Idealize.ShloMosaic Idealize.ShloMosaic.TcCoe Idealize.SL.Sem Idealize.ShloMosaic.StableHlo

/-- The three argument arrays are the real arrays `D`. -/
structure Holds (x0 : FVec Ideal S4x12x8x16x16 .f32) (x1 : FVec Ideal S4x512x512 .f32) (x2 : FVec Ideal S4x3x512x512 .f32) (D : Arrays) : Prop where
  grid : ∀ (n : Fin 4) (j : Fin 12) (k : Fin 8) (y x : Fin 16), x0 (ix5 n j k y x) = ((D.grid n j k y x : ℝ) : EReal)
  guide : ∀ (n : Fin 4) (h w : Fin 512), x1 (ix3 n h w) = ((D.guide n h w : ℝ) : EReal)
  image : ∀ (n : Fin 4) (i : Fin 3) (h w : Fin 512), x2 (ix4 n i h w) = ((D.image n i h w : ℝ) : EReal)

variable {x0 : FVec Ideal S4x12x8x16x16 .f32} {x1 : FVec Ideal S4x512x512 .f32} {x2 : FVec Ideal S4x3x512x512 .f32} {D : Arrays}

/-- The reshaped coefficients at an index. -/
theorem coeff_apply (H : Holds x0 x1 x2 D) (n : Fin 4) (c : Fin 3) (a : Fin 4) (h w : Fin 512) :
    val_main_v574 (F := Ideal) x0 x1 (ix5 n c a h w) = ((D.sliced n c a h w : ℝ) : EReal) := by
  rw [val_main_v574_apply]
  have e : idx_main_v574 (ix5 n c a h w) = ix4 n ⟨4 * c.val + a.val, by omega⟩ h w := by
    funext k
    apply Fin.ext
    match k with
    | ⟨0, _⟩ => show ((((n.val * 3 + c.val) * 4 + a.val) * 512 + h.val) * 512 + w.val) / 3145728 = n.val; omega
    | ⟨1, _⟩ => show ((((n.val * 3 + c.val) * 4 + a.val) * 512 + h.val) * 512 + w.val) / 262144 % 12 = 4 * c.val + a.val; omega
    | ⟨2, _⟩ => show ((((n.val * 3 + c.val) * 4 + a.val) * 512 + h.val) * 512 + w.val) / 512 % 512 = h.val; omega
    | ⟨3, _⟩ => show ((((n.val * 3 + c.val) * 4 + a.val) * 512 + h.val) * 512 + w.val) % 512 = w.val; omega
  rw [e, sliced_apply x0 x1 (D.coeff n c a) (D.guide n h w) n _ h w (fun k y x => H.grid n _ k y x) (H.guide n h w)]
  rfl

/-- The reference's result at an index. -/
theorem result_apply (H : Holds x0 x1 x2 D) (n : Fin 4) (c : Fin 3) (h w : Fin 512) :
    val_main_v580 (F := Ideal) x0 x1 x2 (ix4 n c h w) = ((D.result n c h w : ℝ) : EReal) := by
  pointwise [val_main_v580, val_main_v579, val_main_v578, val_main_v577, val_main_v576, val_main_v575]
  rw [Fin.sum_univ_three, coeff_apply H, coeff_apply H, coeff_apply H, coeff_apply H, H.image, H.image, H.image]
  simp only [← EReal.coe_mul, ← EReal.coe_add]
  rfl

/-- The reference's run over real arguments. -/
theorem run (m : (ℓ : Loc nD τ sig) → Buf (Elt Ideal) ℓ) (ρ : Dev nD → PrngReg) (D : Dev nD → Arrays)
    (H : ∀ c : Dev nD, Holds (m ((c : Thread nD τ).loc main_arg0)) (m ((c : Thread nD τ).loc main_arg1))
      (m ((c : Thread nD τ).loc main_arg2)) (D c)) :
    θ_run defs (onTc (τ := τ) (main (F := Ideal))) ⟨m, fun _ => 0, ρ⟩ fun r => ∀ c : Dev nD,
      r.2.mem ((c : Thread nD τ).loc main_v580)
          = (fun i => (((D c).result (i 0) (i 1) (i 2) (i 3) : ℝ) : EReal) : FVec Ideal S4x3x512x512 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  refine (val_main_v580_eq (launchContents m c)).trans ?_
  funext i
  have e : i = ix4 (i 0) (i 1) (i 2) (i 3) := by
    funext a
    match a with
    | ⟨0, _⟩ => rfl
    | ⟨1, _⟩ => rfl
    | ⟨2, _⟩ => rfl
    | ⟨3, _⟩ => rfl
  exact (congrArg _ e).trans (result_apply (H c) (i 0) (i 1) (i 2) (i 3))

end Cert.ReferenceIdeal.Body

end
-- ==== Proof.Value.Finite.lean ====
module

public import proofs.«01_k».proof.Proof.Gen.Pre_finite
public import proofs.«01_k».proof.Proof.Value.Final
public import proofs.«01_k».proof.Proof.Value.RefFinal

@[expose] public section

/-! The precondition: arrays whose elements are below infinity in absolute value are arrays of real numbers. -/

noncomputable section

namespace Cert.Finite

open Idealize.ShloMosaic Idealize.ShloMosaic.TcCoe Idealize.SL.Sem Idealize.ShloMosaic.StableHlo
open Cert.Pre_finite Cert.Pre_finite.Gen Cert.Interp

/-- An extended real below infinity in absolute value is real. -/
theorem coe_of_abs (v : EReal) (h : Ideal.cmp .olt (max v (-v)) (Ideal.ofBits .f32 0x7F800000#32) = 1#1) :
    v = ((v.toReal : ℝ) : EReal) := by
  have ht : Ideal.ofBits .f32 0x7F800000#32 = (⊤ : EReal) := by simp [Ideal.ofBits, Ideal.ieee]
  rw [ht] at h
  induction v using EReal.rec with
  | bot => simp [Ideal.cmp] at h
  | top => simp [Ideal.cmp] at h
  | coe r => rfl

variable (x0 : FVec Ideal S4x12x8x16x16 .f32) (x1 : FVec Ideal S4x512x512 .f32) (x2 : FVec Ideal S4x3x512x512 .f32)

/-- The real arrays that three finite arrays are. -/
def arrays : Arrays where
  grid n j k y x := (x0 (ix5 (Fin.ofNat 4 n) (Fin.ofNat 12 j) (Fin.ofNat 8 k) (Fin.ofNat 16 y) (Fin.ofNat 16 x))).toReal
  guide n h w := (x1 (ix3 (Fin.ofNat 4 n) (Fin.ofNat 512 h) (Fin.ofNat 512 w))).toReal
  image n i h w := (x2 (ix4 (Fin.ofNat 4 n) (Fin.ofNat 3 i) (Fin.ofNat 512 h) (Fin.ofNat 512 w))).toReal

theorem ofNat_val {b : ℕ} [NeZero b] (k : Fin b) : Fin.ofNat b k.val = k := Fin.ext (Nat.mod_eq_of_lt k.isLt)

theorem holds (h : (fn (F := Ideal) x0 x1 x2).1 = (fun _ => 1#1) ∧ (fn (F := Ideal) x0 x1 x2).2.1 = (fun _ => 1#1)
    ∧ (fn (F := Ideal) x0 x1 x2).2.2 = (fun _ => 1#1)) : Cert.ReferenceIdeal.Body.Holds x0 x1 x2 (arrays x0 x1 x2) where
  grid n j k y x := by
    simp only [arrays, ofNat_val]
    exact coe_of_abs _ (congrFun h.1 (ix5 n j k y x))
  guide n p w := by
    simp only [arrays, ofNat_val]
    exact coe_of_abs _ (congrFun h.2.1 (ix3 n p w))
  image n i p w := by
    simp only [arrays, ofNat_val]
    exact coe_of_abs _ (congrFun h.2.2 (ix4 n i p w))

end Cert.Finite

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Read
public import proofs.«01_k».proof.Proof.Bits.Frame
public import proofs.«01_k».proof.Proof.Ideal.Frame
public import proofs.«01_k».proof.Proof.Ref.Frame
public import proofs.«01_k».proof.Proof.Value.Final
public import proofs.«01_k».proof.Proof.Value.RefFinal
public import proofs.«01_k».proof.Proof.Value.Finite
public import Idealize.ShloMosaic.Adequacy
public import Idealize.ShloMosaic.Init

@[expose] public section

noncomputable section

namespace Cert.Proof

open Idealize.ShloMosaic Idealize.SL.Sem Cert.Kernel

/-- From finite arguments the kernel and the reference end with the same real array. -/
theorem algebraic : Cert.algebraic_KernelIdeal_ReferenceIdeal_pre_finite := by
  intro m g m' g' hpre hargs
  let D (c : Dev Cert.KernelIdeal.nD) : Cert.Interp.Arrays := Cert.Finite.arrays
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
  have H (c : Dev Cert.KernelIdeal.nD) := Cert.Finite.holds _ _ _ (hpre c)
  refine ⟨fun c => Cert.KernelIdeal.Body.result (D c),
    Cert.KernelIdeal.Body.run m D (fun c => ⟨(H c).grid, (H c).guide, (H c).image⟩) g,
    Cert.ReferenceIdeal.Body.run m' g' D fun c => ?_⟩
  obtain ⟨h0, h1, h2⟩ := hargs c
  rw [h0, h1, h2]
  exact H c

theorem claim : Cert.Claim := ⟨Cert.Kernel.Gen.facts, Cert.KernelIdeal.Gen.facts, Cert.ReferenceIdeal.Gen.facts, Cert.Pre_finite.Gen.facts,
  fun m g _ => Cert.Bits.frame m g, fun m g _ => Cert.KernelIdeal.Body.frame m g, fun m g _ => Cert.KernelIdeal.Body.frame m g,
  fun m g _ => Cert.ReferenceIdeal.Value.frame m g, fun m g _ => Cert.ReferenceIdeal.Value.frame m g, trivial, algebraic⟩

end Cert.Proof

end
